-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_children [hPre_children : Cert.Pre_children.Facts] (m : (ℓ : Loc Cert.KernelIdeal.nD Cert.KernelIdeal.τ Cert.KernelIdeal.sig) → Buf (Elt Ideal) ℓ) : Prop :=
  ∀ c : Dev Cert.KernelIdeal.nD,
    (Cert.Pre_children.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_children [hPre_children : Cert.Pre_children.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_children.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_children [hKernelIdeal : Cert.KernelIdeal.Facts] [hPre_children : Cert.Pre_children.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_children m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_children [hReferenceIdeal : Cert.ReferenceIdeal.Facts] [hPre_children : Cert.Pre_children.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_children m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_children [hKernelIdeal : Cert.KernelIdeal.Facts] [hReferenceIdeal : Cert.ReferenceIdeal.Facts] [hPre_children : Cert.Pre_children.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_children m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_children : Cert.Pre_children.Facts),
    quiescent_Kernel (hKernel := hKernel)
    ∧ quiescent_KernelIdeal (hKernelIdeal := hKernelIdeal)
    ∧ quiescent_KernelIdeal_pre_children (hKernelIdeal := hKernelIdeal) (hPre_children := hPre_children)
    ∧ quiescent_ReferenceIdeal (hReferenceIdeal := hReferenceIdeal)
    ∧ quiescent_ReferenceIdeal_pre_children (hReferenceIdeal := hReferenceIdeal) (hPre_children := hPre_children)
    ∧ preserves_Kernel_KernelIdeal
    ∧ algebraic_KernelIdeal_ReferenceIdeal_pre_children (hKernelIdeal := hKernelIdeal) (hReferenceIdeal := hReferenceIdeal) (hPre_children := hPre_children)
-- ==== Pre_children.lean ====
abbrev S4x256x81920 : Shape := ⟨3, ![4, 256, 81920]⟩
abbrev S20480x4 : Shape := ⟨2, ![20480, 4]⟩
abbrev S81920 : Shape := ⟨1, ![81920]⟩
abbrev S_ : Shape := ⟨0, ![]⟩

class Facts : Prop where
  shapeCasts_S81920_S20480x4 : S81920.ShapeCasts S20480x4
  reducesTo_S20480x4_S_d0_1 : S20480x4.ReducesTo [0, 1] S_
  h_S_ : 0 < S_.numel

variable [Facts]

def fn {F : FTy → Type} [FloatOps F] (main_arg0 : FVec F S4x256x81920 .f32) (main_arg1 : IVec S20480x4 32) : IVec S_ 1 :=
  let main_v0 : IVec S81920 32 := iotaInDim S81920 32 0
  let main_v1 : IVec S20480x4 32 := shapeCast S20480x4 main_v0 shapeCasts_S81920_S20480x4
  let main_v2 : IVec S20480x4 1 := cmpi .eq main_arg1 main_v1
  let main_c : IVec S_ 1 := constantI S_ 1 1#1
  let main_v3 : IVec S_ 1 := (fun x v => Host.reduce IntOp.andi x v reducesTo_S20480x4_S_d0_1 h_S_) main_v2 main_c
  main_v3
-- ==== Kernel.lean ====
abbrev S4x256x81920 : Shape := ⟨3, ![4, 256, 81920]⟩
abbrev S20480x4 : Shape := ⟨2, ![20480, 4]⟩
abbrev S1024x81920 : Shape := ⟨2, ![1024, 81920]⟩
abbrev S81920 : Shape := ⟨1, ![81920]⟩
abbrev S1024x20480 : Shape := ⟨2, ![1024, 20480]⟩
abbrev S2560 : Shape := ⟨1, ![2560]⟩
abbrev S640 : Shape := ⟨1, ![640]⟩
abbrev S16x2560 : Shape := ⟨2, ![16, 2560]⟩
abbrev S16x640 : Shape := ⟨2, ![16, 640]⟩
abbrev S_ : Shape := ⟨0, ![]⟩
abbrev S16 : Shape := ⟨1, ![16]⟩
abbrev S80x1x1024 : Shape := ⟨3, ![80, 1, 1024]⟩
abbrev S512x20480 : Shape := ⟨2, ![512, 20480]⟩
abbrev S1x1x1024 : Shape := ⟨3, ![1, 1, 1024]⟩
abbrev S256x1024 : Shape := ⟨2, ![256, 1024]⟩
abbrev S256x256 : Shape := ⟨2, ![256, 256]⟩
abbrev S1x1024 : Shape := ⟨2, ![1, 1024]⟩
abbrev S1024x256 : Shape := ⟨2, ![1024, 256]⟩
abbrev S1x256 : Shape := ⟨2, ![1, 256]⟩
abbrev S4x256x20480 : Shape := ⟨3, ![4, 256, 20480]⟩

abbrev nBuf : Table → Nat
  | .hbm => 11
  | .local .tc .vmem => 6
  | .local .scVector .vmem => 6
  | _ => 0

abbrev bufTy : (tb : Table) → Fin (nBuf tb) → BufTy
  | .hbm, ⟨0, _⟩ => ⟨S4x256x81920, .f32⟩
  | .hbm, ⟨1, _⟩ => ⟨S20480x4, .i32⟩
  | .hbm, ⟨2, _⟩ => ⟨S1024x81920, .f32⟩
  | .hbm, ⟨3, _⟩ => ⟨S81920, .i32⟩
  | .hbm, ⟨4, _⟩ => ⟨S1024x20480, .f32⟩
  | .hbm, ⟨5, _⟩ => ⟨S80x1x1024, .i32⟩
  | .hbm, ⟨6, _⟩ => ⟨S512x20480, .f32⟩
  | .hbm, ⟨7, _⟩ => ⟨S_, .i32⟩
  | .hbm, ⟨8, _⟩ => ⟨S_, .i32⟩
  | .hbm, ⟨9, _⟩ => ⟨S1024x20480, .f32⟩
  | .hbm, ⟨10, _⟩ => ⟨S4x256x20480, .f32⟩
  | .local .tc .vmem, ⟨0, _⟩ => ⟨S1x1x1024, .i32⟩
  | .local .tc .vmem, ⟨1, _⟩ => ⟨S1x1x1024, .i32⟩
  | .local .tc .vmem, ⟨2, _⟩ => ⟨S256x1024, .f32⟩
  | .local .tc .vmem, ⟨3, _⟩ => ⟨S256x1024, .f32⟩
  | .local .tc .vmem, ⟨4, _⟩ => ⟨S256x256, .f32⟩
  | .local .tc .vmem, ⟨5, _⟩ => ⟨S256x256, .f32⟩
  | .local .scVector .vmem, ⟨0, _⟩ => ⟨S2560, .i32⟩
  | .local .scVector .vmem, ⟨1, _⟩ => ⟨S640, .f32⟩
  | .local .scVector .vmem, ⟨2, _⟩ => ⟨S16x2560, .f32⟩
  | .local .scVector .vmem, ⟨3, _⟩ => ⟨S16x2560, .f32⟩
  | .local .scVector .vmem, ⟨4, _⟩ => ⟨S16x640, .f32⟩
  | .local .scVector .vmem, ⟨5, _⟩ => ⟨S16x640, .f32⟩
  | _, _ => ⟨S4x256x81920, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![0, v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![v3.toNat]
@[reducible] def k0_t1_loop : Scf.Loop 32 :=
  let c0_i32_5 : BitVec 32 := 0#32
  let c40_i32 : BitVec 32 := 40#32
  let v25 : BitVec 32 := Scalar.addi c0_i32_5 c40_i32
  let c1_i32_6 : BitVec 32 := 1#32
  ⟨c0_i32_5, v25, c1_i32_6⟩

def k0_chk1 (v40 : IVec S16 32) : Prop :=
  (∀ a x, ((![v40] : Fin 1 → IVec S16 32) a x).toNat < S2560.size a)
theorem k0_idx1_inb : ∀ (v40 : IVec S16 32) (k0_hw1 : k0_chk1 v40), ∀ a x, ((![v40] : Fin 1 → IVec S16 32) a x).toNat < S2560.size a := fun v40 k0_hw1 => k0_hw1

def k0_chk2 (v48 : IVec S16 32) : Prop :=
  (∀ a x, ((![v48] : Fin 1 → IVec S16 32) a x).toNat < S2560.size a)
theorem k0_idx2_inb : ∀ (v48 : IVec S16 32) (k0_hw2 : k0_chk2 v48), ∀ a x, ((![v48] : Fin 1 → IVec S16 32) a x).toNat < S2560.size a := fun v48 k0_hw2 => k0_hw2

def k0_chk3 (v56 : IVec S16 32) : Prop :=
  (∀ a x, ((![v56] : Fin 1 → IVec S16 32) a x).toNat < S2560.size a)
theorem k0_idx3_inb : ∀ (v56 : IVec S16 32) (k0_hw3 : k0_chk3 v56), ∀ a x, ((![v56] : Fin 1 → IVec S16 32) a x).toNat < S2560.size a := fun v56 k0_hw3 => k0_hw3

def k0_chk4 (v64 : IVec S16 32) : Prop :=
  (∀ a x, ((![v64] : Fin 1 → IVec S16 32) a x).toNat < S2560.size a)
theorem k0_idx4_inb : ∀ (v64 : IVec S16 32) (k0_hw4 : k0_chk4 v64), ∀ a x, ((![v64] : Fin 1 → IVec S16 32) a x).toNat < S2560.size a := fun v64 k0_hw4 => k0_hw4

def k0_chk5 (v77 : IVec S16 32) : Prop :=
  (∀ a x, ((![v77] : Fin 1 → IVec S16 32) a x).toNat < S640.size a)
theorem k0_idx5_inb : ∀ (v77 : IVec S16 32) (k0_hw5 : k0_chk5 v77), ∀ a x, ((![v77] : Fin 1 → IVec S16 32) a x).toNat < S640.size a := fun v77 k0_hw5 => k0_hw5
@[reducible] def k0_t2_loop : Scf.Loop 32 :=
  let c0_i32_9 : BitVec 32 := 0#32
  let c16_i32 : BitVec 32 := 16#32
  let v27 : BitVec 32 := Scalar.addi c0_i32_9 c16_i32
  let c1_i32_10 : BitVec 32 := 1#32
  ⟨c0_i32_9, v27, c1_i32_10⟩
def k0_off3 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c1_i32_17 : BitVec 32 := 1#32
  let v36 : BitVec 32 := Scalar.addi v35 c1_i32_17
  let c16_i32_18 : BitVec 32 := 16#32
  let v37 : BitVec 32 := Scalar.muli v36 c16_i32_18
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![v37.toNat, v3.toNat]
def k0_off4 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c16_i32_19 : BitVec 32 := 16#32
  let v40 : BitVec 32 := Scalar.muli v35 c16_i32_19
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![v40.toNat, v3.toNat]
def k0_cond1 (k0_t2 : Fin k0_t2_loop.trips) : BitVec 1 :=
  let c0_i32_9 : BitVec 32 := 0#32
  let c1_i32_10 : BitVec 32 := 1#32
  let arg15 : BitVec 32 := Scf.iv c0_i32_9 c1_i32_10 k0_t2
  let c0_i32_20 : BitVec 32 := 0#32
  let v43 : BitVec 1 := Scalar.cmpi .sgt arg15 c0_i32_20
  let v44 : BitVec 32 := Scalar.extui v43
  let c0_i32_21 : BitVec 32 := 0#32
  let v45 : BitVec 1 := Scalar.cmpi .ne v44 c0_i32_21
  v45

def k0_off5 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c16_i32_40 : BitVec 32 := 16#32
  let v67 : BitVec 32 := Scalar.muli v35 c16_i32_40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v67.toNat, v2.toNat]
@[reducible] def k0_t3_loop : Scf.Loop 32 :=
  let c0_i32_23 : BitVec 32 := 0#32
  let c40_i32_24 : BitVec 32 := 40#32
  let v46 : BitVec 32 := Scalar.addi c0_i32_23 c40_i32_24
  let c1_i32_25 : BitVec 32 := 1#32
  ⟨c0_i32_23, v46, c1_i32_25⟩

def k0_chk8 (v7 : IVec S16 32) (v76 : IVec S16 32) : Prop :=
  (∀ a x, ((![v7, v76] : Fin 2 → IVec S16 32) a x).toNat < S16x2560.size a)
theorem k0_idx8_inb : ∀ (v7 : IVec S16 32) (v76 : IVec S16 32) (k0_hw8 : k0_chk8 v7 v76), ∀ a x, ((![v7, v76] : Fin 2 → IVec S16 32) a x).toNat < S16x2560.size a := fun v7 v76 k0_hw8 => k0_hw8

def k0_chk9 (v7 : IVec S16 32) (v80 : IVec S16 32) : Prop :=
  (∀ a x, ((![v7, v80] : Fin 2 → IVec S16 32) a x).toNat < S16x2560.size a)
theorem k0_idx9_inb : ∀ (v7 : IVec S16 32) (v80 : IVec S16 32) (k0_hw9 : k0_chk9 v7 v80), ∀ a x, ((![v7, v80] : Fin 2 → IVec S16 32) a x).toNat < S16x2560.size a := fun v7 v80 k0_hw9 => k0_hw9

def k0_chk10 (v7 : IVec S16 32) (v84 : IVec S16 32) : Prop :=
  (∀ a x, ((![v7, v84] : Fin 2 → IVec S16 32) a x).toNat < S16x2560.size a)
theorem k0_idx10_inb : ∀ (v7 : IVec S16 32) (v84 : IVec S16 32) (k0_hw10 : k0_chk10 v7 v84), ∀ a x, ((![v7, v84] : Fin 2 → IVec S16 32) a x).toNat < S16x2560.size a := fun v7 v84 k0_hw10 => k0_hw10

def k0_chk11 (v8 : IVec S16 32) (v90 : IVec S16 32) : Prop :=
  (∀ a x, ((![v8, v90] : Fin 2 → IVec S16 32) a x).toNat < S16x2560.size a)
theorem k0_idx13_inb : ∀ (v8 : IVec S16 32) (v90 : IVec S16 32) (k0_hw11 : k0_chk11 v8 v90), ∀ a x, ((![v8, v90] : Fin 2 → IVec S16 32) a x).toNat < S16x2560.size a := fun v8 v90 k0_hw11 => k0_hw11

def k0_chk12 (v8 : IVec S16 32) (v94 : IVec S16 32) : Prop :=
  (∀ a x, ((![v8, v94] : Fin 2 → IVec S16 32) a x).toNat < S16x2560.size a)
theorem k0_idx14_inb : ∀ (v8 : IVec S16 32) (v94 : IVec S16 32) (k0_hw12 : k0_chk12 v8 v94), ∀ a x, ((![v8, v94] : Fin 2 → IVec S16 32) a x).toNat < S16x2560.size a := fun v8 v94 k0_hw12 => k0_hw12

def k0_chk13 (v8 : IVec S16 32) (v98 : IVec S16 32) : Prop :=
  (∀ a x, ((![v8, v98] : Fin 2 → IVec S16 32) a x).toNat < S16x2560.size a)
theorem k0_idx15_inb : ∀ (v8 : IVec S16 32) (v98 : IVec S16 32) (k0_hw13 : k0_chk13 v8 v98), ∀ a x, ((![v8, v98] : Fin 2 → IVec S16 32) a x).toNat < S16x2560.size a := fun v8 v98 k0_hw13 => k0_hw13

def k0_chk14 (v9 : IVec S16 32) (v104 : IVec S16 32) : Prop :=
  (∀ a x, ((![v9, v104] : Fin 2 → IVec S16 32) a x).toNat < S16x2560.size a)
theorem k0_idx18_inb : ∀ (v9 : IVec S16 32) (v104 : IVec S16 32) (k0_hw14 : k0_chk14 v9 v104), ∀ a x, ((![v9, v104] : Fin 2 → IVec S16 32) a x).toNat < S16x2560.size a := fun v9 v104 k0_hw14 => k0_hw14

def k0_chk15 (v9 : IVec S16 32) (v108 : IVec S16 32) : Prop :=
  (∀ a x, ((![v9, v108] : Fin 2 → IVec S16 32) a x).toNat < S16x2560.size a)
theorem k0_idx19_inb : ∀ (v9 : IVec S16 32) (v108 : IVec S16 32) (k0_hw15 : k0_chk15 v9 v108), ∀ a x, ((![v9, v108] : Fin 2 → IVec S16 32) a x).toNat < S16x2560.size a := fun v9 v108 k0_hw15 => k0_hw15

def k0_chk16 (v9 : IVec S16 32) (v112 : IVec S16 32) : Prop :=
  (∀ a x, ((![v9, v112] : Fin 2 → IVec S16 32) a x).toNat < S16x2560.size a)
theorem k0_idx20_inb : ∀ (v9 : IVec S16 32) (v112 : IVec S16 32) (k0_hw16 : k0_chk16 v9 v112), ∀ a x, ((![v9, v112] : Fin 2 → IVec S16 32) a x).toNat < S16x2560.size a := fun v9 v112 k0_hw16 => k0_hw16

def k0_chk17 (v10 : IVec S16 32) (v118 : IVec S16 32) : Prop :=
  (∀ a x, ((![v10, v118] : Fin 2 → IVec S16 32) a x).toNat < S16x2560.size a)
theorem k0_idx23_inb : ∀ (v10 : IVec S16 32) (v118 : IVec S16 32) (k0_hw17 : k0_chk17 v10 v118), ∀ a x, ((![v10, v118] : Fin 2 → IVec S16 32) a x).toNat < S16x2560.size a := fun v10 v118 k0_hw17 => k0_hw17

def k0_chk18 (v10 : IVec S16 32) (v122 : IVec S16 32) : Prop :=
  (∀ a x, ((![v10, v122] : Fin 2 → IVec S16 32) a x).toNat < S16x2560.size a)
theorem k0_idx24_inb : ∀ (v10 : IVec S16 32) (v122 : IVec S16 32) (k0_hw18 : k0_chk18 v10 v122), ∀ a x, ((![v10, v122] : Fin 2 → IVec S16 32) a x).toNat < S16x2560.size a := fun v10 v122 k0_hw18 => k0_hw18

def k0_chk19 (v10 : IVec S16 32) (v126 : IVec S16 32) : Prop :=
  (∀ a x, ((![v10, v126] : Fin 2 → IVec S16 32) a x).toNat < S16x2560.size a)
theorem k0_idx25_inb : ∀ (v10 : IVec S16 32) (v126 : IVec S16 32) (k0_hw19 : k0_chk19 v10 v126), ∀ a x, ((![v10, v126] : Fin 2 → IVec S16 32) a x).toNat < S16x2560.size a := fun v10 v126 k0_hw19 => k0_hw19

def k0_chk20 (v11 : IVec S16 32) (v132 : IVec S16 32) : Prop :=
  (∀ a x, ((![v11, v132] : Fin 2 → IVec S16 32) a x).toNat < S16x2560.size a)
theorem k0_idx28_inb : ∀ (v11 : IVec S16 32) (v132 : IVec S16 32) (k0_hw20 : k0_chk20 v11 v132), ∀ a x, ((![v11, v132] : Fin 2 → IVec S16 32) a x).toNat < S16x2560.size a := fun v11 v132 k0_hw20 => k0_hw20

def k0_chk21 (v11 : IVec S16 32) (v136 : IVec S16 32) : Prop :=
  (∀ a x, ((![v11, v136] : Fin 2 → IVec S16 32) a x).toNat < S16x2560.size a)
theorem k0_idx29_inb : ∀ (v11 : IVec S16 32) (v136 : IVec S16 32) (k0_hw21 : k0_chk21 v11 v136), ∀ a x, ((![v11, v136] : Fin 2 → IVec S16 32) a x).toNat < S16x2560.size a := fun v11 v136 k0_hw21 => k0_hw21

def k0_chk22 (v11 : IVec S16 32) (v140 : IVec S16 32) : Prop :=
  (∀ a x, ((![v11, v140] : Fin 2 → IVec S16 32) a x).toNat < S16x2560.size a)
theorem k0_idx30_inb : ∀ (v11 : IVec S16 32) (v140 : IVec S16 32) (k0_hw22 : k0_chk22 v11 v140), ∀ a x, ((![v11, v140] : Fin 2 → IVec S16 32) a x).toNat < S16x2560.size a := fun v11 v140 k0_hw22 => k0_hw22

def k0_chk23 (v12 : IVec S16 32) (v146 : IVec S16 32) : Prop :=
  (∀ a x, ((![v12, v146] : Fin 2 → IVec S16 32) a x).toNat < S16x2560.size a)
theorem k0_idx33_inb : ∀ (v12 : IVec S16 32) (v146 : IVec S16 32) (k0_hw23 : k0_chk23 v12 v146), ∀ a x, ((![v12, v146] : Fin 2 → IVec S16 32) a x).toNat < S16x2560.size a := fun v12 v146 k0_hw23 => k0_hw23

def k0_chk24 (v12 : IVec S16 32) (v150 : IVec S16 32) : Prop :=
  (∀ a x, ((![v12, v150] : Fin 2 → IVec S16 32) a x).toNat < S16x2560.size a)
theorem k0_idx34_inb : ∀ (v12 : IVec S16 32) (v150 : IVec S16 32) (k0_hw24 : k0_chk24 v12 v150), ∀ a x, ((![v12, v150] : Fin 2 → IVec S16 32) a x).toNat < S16x2560.size a := fun v12 v150 k0_hw24 => k0_hw24

def k0_chk25 (v12 : IVec S16 32) (v154 : IVec S16 32) : Prop :=
  (∀ a x, ((![v12, v154] : Fin 2 → IVec S16 32) a x).toNat < S16x2560.size a)
theorem k0_idx35_inb : ∀ (v12 : IVec S16 32) (v154 : IVec S16 32) (k0_hw25 : k0_chk25 v12 v154), ∀ a x, ((![v12, v154] : Fin 2 → IVec S16 32) a x).toNat < S16x2560.size a := fun v12 v154 k0_hw25 => k0_hw25

def k0_chk26 (v13 : IVec S16 32) (v160 : IVec S16 32) : Prop :=
  (∀ a x, ((![v13, v160] : Fin 2 → IVec S16 32) a x).toNat < S16x2560.size a)
theorem k0_idx38_inb : ∀ (v13 : IVec S16 32) (v160 : IVec S16 32) (k0_hw26 : k0_chk26 v13 v160), ∀ a x, ((![v13, v160] : Fin 2 → IVec S16 32) a x).toNat < S16x2560.size a := fun v13 v160 k0_hw26 => k0_hw26

def k0_chk27 (v13 : IVec S16 32) (v164 : IVec S16 32) : Prop :=
  (∀ a x, ((![v13, v164] : Fin 2 → IVec S16 32) a x).toNat < S16x2560.size a)
theorem k0_idx39_inb : ∀ (v13 : IVec S16 32) (v164 : IVec S16 32) (k0_hw27 : k0_chk27 v13 v164), ∀ a x, ((![v13, v164] : Fin 2 → IVec S16 32) a x).toNat < S16x2560.size a := fun v13 v164 k0_hw27 => k0_hw27

def k0_chk28 (v13 : IVec S16 32) (v168 : IVec S16 32) : Prop :=
  (∀ a x, ((![v13, v168] : Fin 2 → IVec S16 32) a x).toNat < S16x2560.size a)
theorem k0_idx40_inb : ∀ (v13 : IVec S16 32) (v168 : IVec S16 32) (k0_hw28 : k0_chk28 v13 v168), ∀ a x, ((![v13, v168] : Fin 2 → IVec S16 32) a x).toNat < S16x2560.size a := fun v13 v168 k0_hw28 => k0_hw28

def k0_chk29 (v14 : IVec S16 32) (v174 : IVec S16 32) : Prop :=
  (∀ a x, ((![v14, v174] : Fin 2 → IVec S16 32) a x).toNat < S16x2560.size a)
theorem k0_idx43_inb : ∀ (v14 : IVec S16 32) (v174 : IVec S16 32) (k0_hw29 : k0_chk29 v14 v174), ∀ a x, ((![v14, v174] : Fin 2 → IVec S16 32) a x).toNat < S16x2560.size a := fun v14 v174 k0_hw29 => k0_hw29

def k0_chk30 (v14 : IVec S16 32) (v178 : IVec S16 32) : Prop :=
  (∀ a x, ((![v14, v178] : Fin 2 → IVec S16 32) a x).toNat < S16x2560.size a)
theorem k0_idx44_inb : ∀ (v14 : IVec S16 32) (v178 : IVec S16 32) (k0_hw30 : k0_chk30 v14 v178), ∀ a x, ((![v14, v178] : Fin 2 → IVec S16 32) a x).toNat < S16x2560.size a := fun v14 v178 k0_hw30 => k0_hw30

def k0_chk31 (v14 : IVec S16 32) (v182 : IVec S16 32) : Prop :=
  (∀ a x, ((![v14, v182] : Fin 2 → IVec S16 32) a x).toNat < S16x2560.size a)
theorem k0_idx45_inb : ∀ (v14 : IVec S16 32) (v182 : IVec S16 32) (k0_hw31 : k0_chk31 v14 v182), ∀ a x, ((![v14, v182] : Fin 2 → IVec S16 32) a x).toNat < S16x2560.size a := fun v14 v182 k0_hw31 => k0_hw31

def k0_chk32 (v15 : IVec S16 32) (v188 : IVec S16 32) : Prop :=
  (∀ a x, ((![v15, v188] : Fin 2 → IVec S16 32) a x).toNat < S16x2560.size a)
theorem k0_idx48_inb : ∀ (v15 : IVec S16 32) (v188 : IVec S16 32) (k0_hw32 : k0_chk32 v15 v188), ∀ a x, ((![v15, v188] : Fin 2 → IVec S16 32) a x).toNat < S16x2560.size a := fun v15 v188 k0_hw32 => k0_hw32

def k0_chk33 (v15 : IVec S16 32) (v192 : IVec S16 32) : Prop :=
  (∀ a x, ((![v15, v192] : Fin 2 → IVec S16 32) a x).toNat < S16x2560.size a)
theorem k0_idx49_inb : ∀ (v15 : IVec S16 32) (v192 : IVec S16 32) (k0_hw33 : k0_chk33 v15 v192), ∀ a x, ((![v15, v192] : Fin 2 → IVec S16 32) a x).toNat < S16x2560.size a := fun v15 v192 k0_hw33 => k0_hw33

def k0_chk34 (v15 : IVec S16 32) (v196 : IVec S16 32) : Prop :=
  (∀ a x, ((![v15, v196] : Fin 2 → IVec S16 32) a x).toNat < S16x2560.size a)
theorem k0_idx50_inb : ∀ (v15 : IVec S16 32) (v196 : IVec S16 32) (k0_hw34 : k0_chk34 v15 v196), ∀ a x, ((![v15, v196] : Fin 2 → IVec S16 32) a x).toNat < S16x2560.size a := fun v15 v196 k0_hw34 => k0_hw34

def k0_chk35 (v16 : IVec S16 32) (v202 : IVec S16 32) : Prop :=
  (∀ a x, ((![v16, v202] : Fin 2 → IVec S16 32) a x).toNat < S16x2560.size a)
theorem k0_idx53_inb : ∀ (v16 : IVec S16 32) (v202 : IVec S16 32) (k0_hw35 : k0_chk35 v16 v202), ∀ a x, ((![v16, v202] : Fin 2 → IVec S16 32) a x).toNat < S16x2560.size a := fun v16 v202 k0_hw35 => k0_hw35

def k0_chk36 (v16 : IVec S16 32) (v206 : IVec S16 32) : Prop :=
  (∀ a x, ((![v16, v206] : Fin 2 → IVec S16 32) a x).toNat < S16x2560.size a)
theorem k0_idx54_inb : ∀ (v16 : IVec S16 32) (v206 : IVec S16 32) (k0_hw36 : k0_chk36 v16 v206), ∀ a x, ((![v16, v206] : Fin 2 → IVec S16 32) a x).toNat < S16x2560.size a := fun v16 v206 k0_hw36 => k0_hw36

def k0_chk37 (v16 : IVec S16 32) (v210 : IVec S16 32) : Prop :=
  (∀ a x, ((![v16, v210] : Fin 2 → IVec S16 32) a x).toNat < S16x2560.size a)
theorem k0_idx55_inb : ∀ (v16 : IVec S16 32) (v210 : IVec S16 32) (k0_hw37 : k0_chk37 v16 v210), ∀ a x, ((![v16, v210] : Fin 2 → IVec S16 32) a x).toNat < S16x2560.size a := fun v16 v210 k0_hw37 => k0_hw37

def k0_chk38 (v17 : IVec S16 32) (v216 : IVec S16 32) : Prop :=
  (∀ a x, ((![v17, v216] : Fin 2 → IVec S16 32) a x).toNat < S16x2560.size a)
theorem k0_idx58_inb : ∀ (v17 : IVec S16 32) (v216 : IVec S16 32) (k0_hw38 : k0_chk38 v17 v216), ∀ a x, ((![v17, v216] : Fin 2 → IVec S16 32) a x).toNat < S16x2560.size a := fun v17 v216 k0_hw38 => k0_hw38

def k0_chk39 (v17 : IVec S16 32) (v220 : IVec S16 32) : Prop :=
  (∀ a x, ((![v17, v220] : Fin 2 → IVec S16 32) a x).toNat < S16x2560.size a)
theorem k0_idx59_inb : ∀ (v17 : IVec S16 32) (v220 : IVec S16 32) (k0_hw39 : k0_chk39 v17 v220), ∀ a x, ((![v17, v220] : Fin 2 → IVec S16 32) a x).toNat < S16x2560.size a := fun v17 v220 k0_hw39 => k0_hw39

def k0_chk40 (v17 : IVec S16 32) (v224 : IVec S16 32) : Prop :=
  (∀ a x, ((![v17, v224] : Fin 2 → IVec S16 32) a x).toNat < S16x2560.size a)
theorem k0_idx60_inb : ∀ (v17 : IVec S16 32) (v224 : IVec S16 32) (k0_hw40 : k0_chk40 v17 v224), ∀ a x, ((![v17, v224] : Fin 2 → IVec S16 32) a x).toNat < S16x2560.size a := fun v17 v224 k0_hw40 => k0_hw40

def k0_chk41 (v18 : IVec S16 32) (v230 : IVec S16 32) : Prop :=
  (∀ a x, ((![v18, v230] : Fin 2 → IVec S16 32) a x).toNat < S16x2560.size a)
theorem k0_idx63_inb : ∀ (v18 : IVec S16 32) (v230 : IVec S16 32) (k0_hw41 : k0_chk41 v18 v230), ∀ a x, ((![v18, v230] : Fin 2 → IVec S16 32) a x).toNat < S16x2560.size a := fun v18 v230 k0_hw41 => k0_hw41

def k0_chk42 (v18 : IVec S16 32) (v234 : IVec S16 32) : Prop :=
  (∀ a x, ((![v18, v234] : Fin 2 → IVec S16 32) a x).toNat < S16x2560.size a)
theorem k0_idx64_inb : ∀ (v18 : IVec S16 32) (v234 : IVec S16 32) (k0_hw42 : k0_chk42 v18 v234), ∀ a x, ((![v18, v234] : Fin 2 → IVec S16 32) a x).toNat < S16x2560.size a := fun v18 v234 k0_hw42 => k0_hw42

def k0_chk43 (v18 : IVec S16 32) (v238 : IVec S16 32) : Prop :=
  (∀ a x, ((![v18, v238] : Fin 2 → IVec S16 32) a x).toNat < S16x2560.size a)
theorem k0_idx65_inb : ∀ (v18 : IVec S16 32) (v238 : IVec S16 32) (k0_hw43 : k0_chk43 v18 v238), ∀ a x, ((![v18, v238] : Fin 2 → IVec S16 32) a x).toNat < S16x2560.size a := fun v18 v238 k0_hw43 => k0_hw43

def k0_chk44 (v19 : IVec S16 32) (v244 : IVec S16 32) : Prop :=
  (∀ a x, ((![v19, v244] : Fin 2 → IVec S16 32) a x).toNat < S16x2560.size a)
theorem k0_idx68_inb : ∀ (v19 : IVec S16 32) (v244 : IVec S16 32) (k0_hw44 : k0_chk44 v19 v244), ∀ a x, ((![v19, v244] : Fin 2 → IVec S16 32) a x).toNat < S16x2560.size a := fun v19 v244 k0_hw44 => k0_hw44

def k0_chk45 (v19 : IVec S16 32) (v248 : IVec S16 32) : Prop :=
  (∀ a x, ((![v19, v248] : Fin 2 → IVec S16 32) a x).toNat < S16x2560.size a)
theorem k0_idx69_inb : ∀ (v19 : IVec S16 32) (v248 : IVec S16 32) (k0_hw45 : k0_chk45 v19 v248), ∀ a x, ((![v19, v248] : Fin 2 → IVec S16 32) a x).toNat < S16x2560.size a := fun v19 v248 k0_hw45 => k0_hw45

def k0_chk46 (v19 : IVec S16 32) (v252 : IVec S16 32) : Prop :=
  (∀ a x, ((![v19, v252] : Fin 2 → IVec S16 32) a x).toNat < S16x2560.size a)
theorem k0_idx70_inb : ∀ (v19 : IVec S16 32) (v252 : IVec S16 32) (k0_hw46 : k0_chk46 v19 v252), ∀ a x, ((![v19, v252] : Fin 2 → IVec S16 32) a x).toNat < S16x2560.size a := fun v19 v252 k0_hw46 => k0_hw46

def k0_chk47 (v20 : IVec S16 32) (v258 : IVec S16 32) : Prop :=
  (∀ a x, ((![v20, v258] : Fin 2 → IVec S16 32) a x).toNat < S16x2560.size a)
theorem k0_idx73_inb : ∀ (v20 : IVec S16 32) (v258 : IVec S16 32) (k0_hw47 : k0_chk47 v20 v258), ∀ a x, ((![v20, v258] : Fin 2 → IVec S16 32) a x).toNat < S16x2560.size a := fun v20 v258 k0_hw47 => k0_hw47

def k0_chk48 (v20 : IVec S16 32) (v262 : IVec S16 32) : Prop :=
  (∀ a x, ((![v20, v262] : Fin 2 → IVec S16 32) a x).toNat < S16x2560.size a)
theorem k0_idx74_inb : ∀ (v20 : IVec S16 32) (v262 : IVec S16 32) (k0_hw48 : k0_chk48 v20 v262), ∀ a x, ((![v20, v262] : Fin 2 → IVec S16 32) a x).toNat < S16x2560.size a := fun v20 v262 k0_hw48 => k0_hw48

def k0_chk49 (v20 : IVec S16 32) (v266 : IVec S16 32) : Prop :=
  (∀ a x, ((![v20, v266] : Fin 2 → IVec S16 32) a x).toNat < S16x2560.size a)
theorem k0_idx75_inb : ∀ (v20 : IVec S16 32) (v266 : IVec S16 32) (k0_hw49 : k0_chk49 v20 v266), ∀ a x, ((![v20, v266] : Fin 2 → IVec S16 32) a x).toNat < S16x2560.size a := fun v20 v266 k0_hw49 => k0_hw49

def k0_chk50 (v21 : IVec S16 32) (v272 : IVec S16 32) : Prop :=
  (∀ a x, ((![v21, v272] : Fin 2 → IVec S16 32) a x).toNat < S16x2560.size a)
theorem k0_idx78_inb : ∀ (v21 : IVec S16 32) (v272 : IVec S16 32) (k0_hw50 : k0_chk50 v21 v272), ∀ a x, ((![v21, v272] : Fin 2 → IVec S16 32) a x).toNat < S16x2560.size a := fun v21 v272 k0_hw50 => k0_hw50

def k0_chk51 (v21 : IVec S16 32) (v276 : IVec S16 32) : Prop :=
  (∀ a x, ((![v21, v276] : Fin 2 → IVec S16 32) a x).toNat < S16x2560.size a)
theorem k0_idx79_inb : ∀ (v21 : IVec S16 32) (v276 : IVec S16 32) (k0_hw51 : k0_chk51 v21 v276), ∀ a x, ((![v21, v276] : Fin 2 → IVec S16 32) a x).toNat < S16x2560.size a := fun v21 v276 k0_hw51 => k0_hw51

def k0_chk52 (v21 : IVec S16 32) (v280 : IVec S16 32) : Prop :=
  (∀ a x, ((![v21, v280] : Fin 2 → IVec S16 32) a x).toNat < S16x2560.size a)
theorem k0_idx80_inb : ∀ (v21 : IVec S16 32) (v280 : IVec S16 32) (k0_hw52 : k0_chk52 v21 v280), ∀ a x, ((![v21, v280] : Fin 2 → IVec S16 32) a x).toNat < S16x2560.size a := fun v21 v280 k0_hw52 => k0_hw52

def k0_chk7 (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) : Prop :=
  (∀ a x, ((![v7, v69] : Fin 2 → IVec S16 32) a x).toNat < S16x2560.size a) ∧
  (∀ a x, ((![v8, v69] : Fin 2 → IVec S16 32) a x).toNat < S16x2560.size a) ∧
  (∀ a x, ((![v9, v69] : Fin 2 → IVec S16 32) a x).toNat < S16x2560.size a) ∧
  (∀ a x, ((![v10, v69] : Fin 2 → IVec S16 32) a x).toNat < S16x2560.size a) ∧
  (∀ a x, ((![v11, v69] : Fin 2 → IVec S16 32) a x).toNat < S16x2560.size a) ∧
  (∀ a x, ((![v12, v69] : Fin 2 → IVec S16 32) a x).toNat < S16x2560.size a) ∧
  (∀ a x, ((![v13, v69] : Fin 2 → IVec S16 32) a x).toNat < S16x2560.size a) ∧
  (∀ a x, ((![v14, v69] : Fin 2 → IVec S16 32) a x).toNat < S16x2560.size a) ∧
  (∀ a x, ((![v15, v69] : Fin 2 → IVec S16 32) a x).toNat < S16x2560.size a) ∧
  (∀ a x, ((![v16, v69] : Fin 2 → IVec S16 32) a x).toNat < S16x2560.size a) ∧
  (∀ a x, ((![v17, v69] : Fin 2 → IVec S16 32) a x).toNat < S16x2560.size a) ∧
  (∀ a x, ((![v18, v69] : Fin 2 → IVec S16 32) a x).toNat < S16x2560.size a) ∧
  (∀ a x, ((![v19, v69] : Fin 2 → IVec S16 32) a x).toNat < S16x2560.size a) ∧
  (∀ a x, ((![v20, v69] : Fin 2 → IVec S16 32) a x).toNat < S16x2560.size a) ∧
  (∀ a x, ((![v21, v69] : Fin 2 → IVec S16 32) a x).toNat < S16x2560.size a) ∧
  (∀ a x, ((![v22, v69] : Fin 2 → IVec S16 32) a x).toNat < S16x2560.size a)
theorem k0_idx7_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v7, v69] : Fin 2 → IVec S16 32) a x).toNat < S16x2560.size a := fun v7 v8 v9 v10 v11 v12 v13 v14 v15 v16 v17 v18 v19 v20 v21 v22 v69 k0_hw7 => k0_hw7.1
theorem k0_idx12_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v8, v69] : Fin 2 → IVec S16 32) a x).toNat < S16x2560.size a := fun v7 v8 v9 v10 v11 v12 v13 v14 v15 v16 v17 v18 v19 v20 v21 v22 v69 k0_hw7 => k0_hw7.2.1
theorem k0_idx17_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v9, v69] : Fin 2 → IVec S16 32) a x).toNat < S16x2560.size a := fun v7 v8 v9 v10 v11 v12 v13 v14 v15 v16 v17 v18 v19 v20 v21 v22 v69 k0_hw7 => k0_hw7.2.2.1
theorem k0_idx22_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v10, v69] : Fin 2 → IVec S16 32) a x).toNat < S16x2560.size a := fun v7 v8 v9 v10 v11 v12 v13 v14 v15 v16 v17 v18 v19 v20 v21 v22 v69 k0_hw7 => k0_hw7.2.2.2.1
theorem k0_idx27_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v11, v69] : Fin 2 → IVec S16 32) a x).toNat < S16x2560.size a := fun v7 v8 v9 v10 v11 v12 v13 v14 v15 v16 v17 v18 v19 v20 v21 v22 v69 k0_hw7 => k0_hw7.2.2.2.2.1
theorem k0_idx32_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v12, v69] : Fin 2 → IVec S16 32) a x).toNat < S16x2560.size a := fun v7 v8 v9 v10 v11 v12 v13 v14 v15 v16 v17 v18 v19 v20 v21 v22 v69 k0_hw7 => k0_hw7.2.2.2.2.2.1
theorem k0_idx37_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v13, v69] : Fin 2 → IVec S16 32) a x).toNat < S16x2560.size a := fun v7 v8 v9 v10 v11 v12 v13 v14 v15 v16 v17 v18 v19 v20 v21 v22 v69 k0_hw7 => k0_hw7.2.2.2.2.2.2.1
theorem k0_idx42_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v14, v69] : Fin 2 → IVec S16 32) a x).toNat < S16x2560.size a := fun v7 v8 v9 v10 v11 v12 v13 v14 v15 v16 v17 v18 v19 v20 v21 v22 v69 k0_hw7 => k0_hw7.2.2.2.2.2.2.2.1
theorem k0_idx47_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v15, v69] : Fin 2 → IVec S16 32) a x).toNat < S16x2560.size a := fun v7 v8 v9 v10 v11 v12 v13 v14 v15 v16 v17 v18 v19 v20 v21 v22 v69 k0_hw7 => k0_hw7.2.2.2.2.2.2.2.2.1
theorem k0_idx52_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v16, v69] : Fin 2 → IVec S16 32) a x).toNat < S16x2560.size a := fun v7 v8 v9 v10 v11 v12 v13 v14 v15 v16 v17 v18 v19 v20 v21 v22 v69 k0_hw7 => k0_hw7.2.2.2.2.2.2.2.2.2.1
theorem k0_idx57_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v17, v69] : Fin 2 → IVec S16 32) a x).toNat < S16x2560.size a := fun v7 v8 v9 v10 v11 v12 v13 v14 v15 v16 v17 v18 v19 v20 v21 v22 v69 k0_hw7 => k0_hw7.2.2.2.2.2.2.2.2.2.2.1
theorem k0_idx62_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v18, v69] : Fin 2 → IVec S16 32) a x).toNat < S16x2560.size a := fun v7 v8 v9 v10 v11 v12 v13 v14 v15 v16 v17 v18 v19 v20 v21 v22 v69 k0_hw7 => k0_hw7.2.2.2.2.2.2.2.2.2.2.2.1
theorem k0_idx67_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v19, v69] : Fin 2 → IVec S16 32) a x).toNat < S16x2560.size a := fun v7 v8 v9 v10 v11 v12 v13 v14 v15 v16 v17 v18 v19 v20 v21 v22 v69 k0_hw7 => k0_hw7.2.2.2.2.2.2.2.2.2.2.2.2.1
theorem k0_idx72_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v20, v69] : Fin 2 → IVec S16 32) a x).toNat < S16x2560.size a := fun v7 v8 v9 v10 v11 v12 v13 v14 v15 v16 v17 v18 v19 v20 v21 v22 v69 k0_hw7 => k0_hw7.2.2.2.2.2.2.2.2.2.2.2.2.2.1
theorem k0_idx77_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v21, v69] : Fin 2 → IVec S16 32) a x).toNat < S16x2560.size a := fun v7 v8 v9 v10 v11 v12 v13 v14 v15 v16 v17 v18 v19 v20 v21 v22 v69 k0_hw7 => k0_hw7.2.2.2.2.2.2.2.2.2.2.2.2.2.2.1
theorem k0_idx82_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw7 : k0_chk7 v7 v8 v9 v10 v11 v12 v13 v14 v15 v16 v17 v18 v19 v20 v21 v22 v69), ∀ a x, ((![v22, v69] : Fin 2 → IVec S16 32) a x).toNat < S16x2560.size a := fun v7 v8 v9 v10 v11 v12 v13 v14 v15 v16 v17 v18 v19 v20 v21 v22 v69 k0_hw7 => k0_hw7.2.2.2.2.2.2.2.2.2.2.2.2.2.2.2

def k0_chk53 (v22 : IVec S16 32) (v286 : IVec S16 32) : Prop :=
  (∀ a x, ((![v22, v286] : Fin 2 → IVec S16 32) a x).toNat < S16x2560.size a)
theorem k0_idx83_inb : ∀ (v22 : IVec S16 32) (v286 : IVec S16 32) (k0_hw53 : k0_chk53 v22 v286), ∀ a x, ((![v22, v286] : Fin 2 → IVec S16 32) a x).toNat < S16x2560.size a := fun v22 v286 k0_hw53 => k0_hw53

def k0_chk54 (v22 : IVec S16 32) (v290 : IVec S16 32) : Prop :=
  (∀ a x, ((![v22, v290] : Fin 2 → IVec S16 32) a x).toNat < S16x2560.size a)
theorem k0_idx84_inb : ∀ (v22 : IVec S16 32) (v290 : IVec S16 32) (k0_hw54 : k0_chk54 v22 v290), ∀ a x, ((![v22, v290] : Fin 2 → IVec S16 32) a x).toNat < S16x2560.size a := fun v22 v290 k0_hw54 => k0_hw54

def k0_chk55 (v22 : IVec S16 32) (v294 : IVec S16 32) : Prop :=
  (∀ a x, ((![v22, v294] : Fin 2 → IVec S16 32) a x).toNat < S16x2560.size a)
theorem k0_idx85_inb : ∀ (v22 : IVec S16 32) (v294 : IVec S16 32) (k0_hw55 : k0_chk55 v22 v294), ∀ a x, ((![v22, v294] : Fin 2 → IVec S16 32) a x).toNat < S16x2560.size a := fun v22 v294 k0_hw55 => k0_hw55

def k0_chk6 (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) : Prop :=
  (∀ a x, ((![v72] : Fin 1 → IVec S16 32) a x).toNat < S640.size a) ∧
  (∀ a x, ((![v7, v72] : Fin 2 → IVec S16 32) a x).toNat < S16x640.size a) ∧
  (∀ a x, ((![v8, v72] : Fin 2 → IVec S16 32) a x).toNat < S16x640.size a) ∧
  (∀ a x, ((![v9, v72] : Fin 2 → IVec S16 32) a x).toNat < S16x640.size a) ∧
  (∀ a x, ((![v10, v72] : Fin 2 → IVec S16 32) a x).toNat < S16x640.size a) ∧
  (∀ a x, ((![v11, v72] : Fin 2 → IVec S16 32) a x).toNat < S16x640.size a) ∧
  (∀ a x, ((![v12, v72] : Fin 2 → IVec S16 32) a x).toNat < S16x640.size a) ∧
  (∀ a x, ((![v13, v72] : Fin 2 → IVec S16 32) a x).toNat < S16x640.size a) ∧
  (∀ a x, ((![v14, v72] : Fin 2 → IVec S16 32) a x).toNat < S16x640.size a) ∧
  (∀ a x, ((![v15, v72] : Fin 2 → IVec S16 32) a x).toNat < S16x640.size a) ∧
  (∀ a x, ((![v16, v72] : Fin 2 → IVec S16 32) a x).toNat < S16x640.size a) ∧
  (∀ a x, ((![v17, v72] : Fin 2 → IVec S16 32) a x).toNat < S16x640.size a) ∧
  (∀ a x, ((![v18, v72] : Fin 2 → IVec S16 32) a x).toNat < S16x640.size a) ∧
  (∀ a x, ((![v19, v72] : Fin 2 → IVec S16 32) a x).toNat < S16x640.size a) ∧
  (∀ a x, ((![v20, v72] : Fin 2 → IVec S16 32) a x).toNat < S16x640.size a) ∧
  (∀ a x, ((![v21, v72] : Fin 2 → IVec S16 32) a x).toNat < S16x640.size a) ∧
  (∀ a x, ((![v22, v72] : Fin 2 → IVec S16 32) a x).toNat < S16x640.size a)
theorem k0_idx6_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v72] : Fin 1 → IVec S16 32) a x).toNat < S640.size a := fun v7 v8 v9 v10 v11 v12 v13 v14 v15 v16 v17 v18 v19 v20 v21 v22 v72 k0_hw6 => k0_hw6.1
theorem k0_idx11_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v7, v72] : Fin 2 → IVec S16 32) a x).toNat < S16x640.size a := fun v7 v8 v9 v10 v11 v12 v13 v14 v15 v16 v17 v18 v19 v20 v21 v22 v72 k0_hw6 => k0_hw6.2.1
theorem k0_idx16_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v8, v72] : Fin 2 → IVec S16 32) a x).toNat < S16x640.size a := fun v7 v8 v9 v10 v11 v12 v13 v14 v15 v16 v17 v18 v19 v20 v21 v22 v72 k0_hw6 => k0_hw6.2.2.1
theorem k0_idx21_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v9, v72] : Fin 2 → IVec S16 32) a x).toNat < S16x640.size a := fun v7 v8 v9 v10 v11 v12 v13 v14 v15 v16 v17 v18 v19 v20 v21 v22 v72 k0_hw6 => k0_hw6.2.2.2.1
theorem k0_idx26_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v10, v72] : Fin 2 → IVec S16 32) a x).toNat < S16x640.size a := fun v7 v8 v9 v10 v11 v12 v13 v14 v15 v16 v17 v18 v19 v20 v21 v22 v72 k0_hw6 => k0_hw6.2.2.2.2.1
theorem k0_idx31_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v11, v72] : Fin 2 → IVec S16 32) a x).toNat < S16x640.size a := fun v7 v8 v9 v10 v11 v12 v13 v14 v15 v16 v17 v18 v19 v20 v21 v22 v72 k0_hw6 => k0_hw6.2.2.2.2.2.1
theorem k0_idx36_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v12, v72] : Fin 2 → IVec S16 32) a x).toNat < S16x640.size a := fun v7 v8 v9 v10 v11 v12 v13 v14 v15 v16 v17 v18 v19 v20 v21 v22 v72 k0_hw6 => k0_hw6.2.2.2.2.2.2.1
theorem k0_idx41_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v13, v72] : Fin 2 → IVec S16 32) a x).toNat < S16x640.size a := fun v7 v8 v9 v10 v11 v12 v13 v14 v15 v16 v17 v18 v19 v20 v21 v22 v72 k0_hw6 => k0_hw6.2.2.2.2.2.2.2.1
theorem k0_idx46_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v14, v72] : Fin 2 → IVec S16 32) a x).toNat < S16x640.size a := fun v7 v8 v9 v10 v11 v12 v13 v14 v15 v16 v17 v18 v19 v20 v21 v22 v72 k0_hw6 => k0_hw6.2.2.2.2.2.2.2.2.1
theorem k0_idx51_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v15, v72] : Fin 2 → IVec S16 32) a x).toNat < S16x640.size a := fun v7 v8 v9 v10 v11 v12 v13 v14 v15 v16 v17 v18 v19 v20 v21 v22 v72 k0_hw6 => k0_hw6.2.2.2.2.2.2.2.2.2.1
theorem k0_idx56_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v16, v72] : Fin 2 → IVec S16 32) a x).toNat < S16x640.size a := fun v7 v8 v9 v10 v11 v12 v13 v14 v15 v16 v17 v18 v19 v20 v21 v22 v72 k0_hw6 => k0_hw6.2.2.2.2.2.2.2.2.2.2.1
theorem k0_idx61_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v17, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.1
theorem k0_idx66_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v18, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.2.1
theorem k0_idx71_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v19, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.2.2.1
theorem k0_idx76_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v20, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.2.2.2.1
theorem k0_idx81_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v21, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.2.2.2.2.1
theorem k0_idx86_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw6 : k0_chk6 v7 v8 v9 v10 v11 v12 v13 v14 v15 v16 v17 v18 v19 v20 v21 v22 v72), ∀ a x, ((![v22, v72] : Fin 2 → IVec S16 32) a x).toNat < S16x640.size a := fun v7 v8 v9 v10 v11 v12 v13 v14 v15 v16 v17 v18 v19 v20 v21 v22 v72 k0_hw6 => k0_hw6.2.2.2.2.2.2.2.2.2.2.2.2.2.2.2.2
def k0_off6 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c16_i32_27 : BitVec 32 := 16#32
  let v48 : BitVec 32 := Scalar.muli v35 c16_i32_27
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v48.toNat, v2.toNat]
def k0_off7 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c2_i32_28 : BitVec 32 := 2#32
  let v51 : BitVec 32 := Scalar.addi v35 c2_i32_28
  let c31_i32 : BitVec 32 := 31#32
  let v52 : BitVec 32 := Scalar.minsi v51 c31_i32
  let c16_i32_29 : BitVec 32 := 16#32
  let v53 : BitVec 32 := Scalar.muli v52 c16_i32_29
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![v53.toNat, v3.toNat]
def k0_off8 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c1_i32_17 : BitVec 32 := 1#32
  let v36 : BitVec 32 := Scalar.addi v35 c1_i32_17
  let c16_i32_30 : BitVec 32 := 16#32
  let v56 : BitVec 32 := Scalar.muli v36 c16_i32_30
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![v56.toNat, v3.toNat]
def k0_cond2 (k0_t2 : Fin k0_t2_loop.trips) : BitVec 1 :=
  let c0_i32_9 : BitVec 32 := 0#32
  let c1_i32_10 : BitVec 32 := 1#32
  let arg15 : BitVec 32 := Scf.iv c0_i32_9 c1_i32_10 k0_t2
  let c0_i32_31 : BitVec 32 := 0#32
  let v59 : BitVec 1 := Scalar.cmpi .sgt arg15 c0_i32_31
  let v60 : BitVec 32 := Scalar.extui v59
  let c0_i32_32 : BitVec 32 := 0#32
  let v61 : BitVec 1 := Scalar.cmpi .ne v60 c0_i32_32
  v61

def k0_off9 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c1_i32_17 : BitVec 32 := 1#32
  let v36 : BitVec 32 := Scalar.addi v35 c1_i32_17
  let c16_i32_40 : BitVec 32 := 16#32
  let v67 : BitVec 32 := Scalar.muli v36 c16_i32_40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v67.toNat, v2.toNat]
@[reducible] def k0_t4_loop : Scf.Loop 32 :=
  let c0_i32_34 : BitVec 32 := 0#32
  let c40_i32_35 : BitVec 32 := 40#32
  let v62 : BitVec 32 := Scalar.addi c0_i32_34 c40_i32_35
  let c1_i32_36 : BitVec 32 := 1#32
  ⟨c0_i32_34, v62, c1_i32_36⟩

def k0_chk58 (v7 : IVec S16 32) (v76 : IVec S16 32) : Prop :=
  (∀ a x, ((![v7, v76] : Fin 2 → IVec S16 32) a x).toNat < S16x2560.size a)
theorem k0_idx89_inb : ∀ (v7 : IVec S16 32) (v76 : IVec S16 32) (k0_hw58 : k0_chk58 v7 v76), ∀ a x, ((![v7, v76] : Fin 2 → IVec S16 32) a x).toNat < S16x2560.size a := fun v7 v76 k0_hw58 => k0_hw58

def k0_chk59 (v7 : IVec S16 32) (v80 : IVec S16 32) : Prop :=
  (∀ a x, ((![v7, v80] : Fin 2 → IVec S16 32) a x).toNat < S16x2560.size a)
theorem k0_idx90_inb : ∀ (v7 : IVec S16 32) (v80 : IVec S16 32) (k0_hw59 : k0_chk59 v7 v80), ∀ a x, ((![v7, v80] : Fin 2 → IVec S16 32) a x).toNat < S16x2560.size a := fun v7 v80 k0_hw59 => k0_hw59

def k0_chk60 (v7 : IVec S16 32) (v84 : IVec S16 32) : Prop :=
  (∀ a x, ((![v7, v84] : Fin 2 → IVec S16 32) a x).toNat < S16x2560.size a)
theorem k0_idx91_inb : ∀ (v7 : IVec S16 32) (v84 : IVec S16 32) (k0_hw60 : k0_chk60 v7 v84), ∀ a x, ((![v7, v84] : Fin 2 → IVec S16 32) a x).toNat < S16x2560.size a := fun v7 v84 k0_hw60 => k0_hw60

def k0_chk61 (v8 : IVec S16 32) (v90 : IVec S16 32) : Prop :=
  (∀ a x, ((![v8, v90] : Fin 2 → IVec S16 32) a x).toNat < S16x2560.size a)
theorem k0_idx94_inb : ∀ (v8 : IVec S16 32) (v90 : IVec S16 32) (k0_hw61 : k0_chk61 v8 v90), ∀ a x, ((![v8, v90] : Fin 2 → IVec S16 32) a x).toNat < S16x2560.size a := fun v8 v90 k0_hw61 => k0_hw61

def k0_chk62 (v8 : IVec S16 32) (v94 : IVec S16 32) : Prop :=
  (∀ a x, ((![v8, v94] : Fin 2 → IVec S16 32) a x).toNat < S16x2560.size a)
theorem k0_idx95_inb : ∀ (v8 : IVec S16 32) (v94 : IVec S16 32) (k0_hw62 : k0_chk62 v8 v94), ∀ a x, ((![v8, v94] : Fin 2 → IVec S16 32) a x).toNat < S16x2560.size a := fun v8 v94 k0_hw62 => k0_hw62

def k0_chk63 (v8 : IVec S16 32) (v98 : IVec S16 32) : Prop :=
  (∀ a x, ((![v8, v98] : Fin 2 → IVec S16 32) a x).toNat < S16x2560.size a)
theorem k0_idx96_inb : ∀ (v8 : IVec S16 32) (v98 : IVec S16 32) (k0_hw63 : k0_chk63 v8 v98), ∀ a x, ((![v8, v98] : Fin 2 → IVec S16 32) a x).toNat < S16x2560.size a := fun v8 v98 k0_hw63 => k0_hw63

def k0_chk64 (v9 : IVec S16 32) (v104 : IVec S16 32) : Prop :=
  (∀ a x, ((![v9, v104] : Fin 2 → IVec S16 32) a x).toNat < S16x2560.size a)
theorem k0_idx99_inb : ∀ (v9 : IVec S16 32) (v104 : IVec S16 32) (k0_hw64 : k0_chk64 v9 v104), ∀ a x, ((![v9, v104] : Fin 2 → IVec S16 32) a x).toNat < S16x2560.size a := fun v9 v104 k0_hw64 => k0_hw64

def k0_chk65 (v9 : IVec S16 32) (v108 : IVec S16 32) : Prop :=
  (∀ a x, ((![v9, v108] : Fin 2 → IVec S16 32) a x).toNat < S16x2560.size a)
theorem k0_idx100_inb : ∀ (v9 : IVec S16 32) (v108 : IVec S16 32) (k0_hw65 : k0_chk65 v9 v108), ∀ a x, ((![v9, v108] : Fin 2 → IVec S16 32) a x).toNat < S16x2560.size a := fun v9 v108 k0_hw65 => k0_hw65

def k0_chk66 (v9 : IVec S16 32) (v112 : IVec S16 32) : Prop :=
  (∀ a x, ((![v9, v112] : Fin 2 → IVec S16 32) a x).toNat < S16x2560.size a)
theorem k0_idx101_inb : ∀ (v9 : IVec S16 32) (v112 : IVec S16 32) (k0_hw66 : k0_chk66 v9 v112), ∀ a x, ((![v9, v112] : Fin 2 → IVec S16 32) a x).toNat < S16x2560.size a := fun v9 v112 k0_hw66 => k0_hw66

def k0_chk67 (v10 : IVec S16 32) (v118 : IVec S16 32) : Prop :=
  (∀ a x, ((![v10, v118] : Fin 2 → IVec S16 32) a x).toNat < S16x2560.size a)
theorem k0_idx104_inb : ∀ (v10 : IVec S16 32) (v118 : IVec S16 32) (k0_hw67 : k0_chk67 v10 v118), ∀ a x, ((![v10, v118] : Fin 2 → IVec S16 32) a x).toNat < S16x2560.size a := fun v10 v118 k0_hw67 => k0_hw67

def k0_chk68 (v10 : IVec S16 32) (v122 : IVec S16 32) : Prop :=
  (∀ a x, ((![v10, v122] : Fin 2 → IVec S16 32) a x).toNat < S16x2560.size a)
theorem k0_idx105_inb : ∀ (v10 : IVec S16 32) (v122 : IVec S16 32) (k0_hw68 : k0_chk68 v10 v122), ∀ a x, ((![v10, v122] : Fin 2 → IVec S16 32) a x).toNat < S16x2560.size a := fun v10 v122 k0_hw68 => k0_hw68

def k0_chk69 (v10 : IVec S16 32) (v126 : IVec S16 32) : Prop :=
  (∀ a x, ((![v10, v126] : Fin 2 → IVec S16 32) a x).toNat < S16x2560.size a)
theorem k0_idx106_inb : ∀ (v10 : IVec S16 32) (v126 : IVec S16 32) (k0_hw69 : k0_chk69 v10 v126), ∀ a x, ((![v10, v126] : Fin 2 → IVec S16 32) a x).toNat < S16x2560.size a := fun v10 v126 k0_hw69 => k0_hw69

def k0_chk70 (v11 : IVec S16 32) (v132 : IVec S16 32) : Prop :=
  (∀ a x, ((![v11, v132] : Fin 2 → IVec S16 32) a x).toNat < S16x2560.size a)
theorem k0_idx109_inb : ∀ (v11 : IVec S16 32) (v132 : IVec S16 32) (k0_hw70 : k0_chk70 v11 v132), ∀ a x, ((![v11, v132] : Fin 2 → IVec S16 32) a x).toNat < S16x2560.size a := fun v11 v132 k0_hw70 => k0_hw70

def k0_chk71 (v11 : IVec S16 32) (v136 : IVec S16 32) : Prop :=
  (∀ a x, ((![v11, v136] : Fin 2 → IVec S16 32) a x).toNat < S16x2560.size a)
theorem k0_idx110_inb : ∀ (v11 : IVec S16 32) (v136 : IVec S16 32) (k0_hw71 : k0_chk71 v11 v136), ∀ a x, ((![v11, v136] : Fin 2 → IVec S16 32) a x).toNat < S16x2560.size a := fun v11 v136 k0_hw71 => k0_hw71

def k0_chk72 (v11 : IVec S16 32) (v140 : IVec S16 32) : Prop :=
  (∀ a x, ((![v11, v140] : Fin 2 → IVec S16 32) a x).toNat < S16x2560.size a)
theorem k0_idx111_inb : ∀ (v11 : IVec S16 32) (v140 : IVec S16 32) (k0_hw72 : k0_chk72 v11 v140), ∀ a x, ((![v11, v140] : Fin 2 → IVec S16 32) a x).toNat < S16x2560.size a := fun v11 v140 k0_hw72 => k0_hw72

def k0_chk73 (v12 : IVec S16 32) (v146 : IVec S16 32) : Prop :=
  (∀ a x, ((![v12, v146] : Fin 2 → IVec S16 32) a x).toNat < S16x2560.size a)
theorem k0_idx114_inb : ∀ (v12 : IVec S16 32) (v146 : IVec S16 32) (k0_hw73 : k0_chk73 v12 v146), ∀ a x, ((![v12, v146] : Fin 2 → IVec S16 32) a x).toNat < S16x2560.size a := fun v12 v146 k0_hw73 => k0_hw73

def k0_chk74 (v12 : IVec S16 32) (v150 : IVec S16 32) : Prop :=
  (∀ a x, ((![v12, v150] : Fin 2 → IVec S16 32) a x).toNat < S16x2560.size a)
theorem k0_idx115_inb : ∀ (v12 : IVec S16 32) (v150 : IVec S16 32) (k0_hw74 : k0_chk74 v12 v150), ∀ a x, ((![v12, v150] : Fin 2 → IVec S16 32) a x).toNat < S16x2560.size a := fun v12 v150 k0_hw74 => k0_hw74

def k0_chk75 (v12 : IVec S16 32) (v154 : IVec S16 32) : Prop :=
  (∀ a x, ((![v12, v154] : Fin 2 → IVec S16 32) a x).toNat < S16x2560.size a)
theorem k0_idx116_inb : ∀ (v12 : IVec S16 32) (v154 : IVec S16 32) (k0_hw75 : k0_chk75 v12 v154), ∀ a x, ((![v12, v154] : Fin 2 → IVec S16 32) a x).toNat < S16x2560.size a := fun v12 v154 k0_hw75 => k0_hw75

def k0_chk76 (v13 : IVec S16 32) (v160 : IVec S16 32) : Prop :=
  (∀ a x, ((![v13, v160] : Fin 2 → IVec S16 32) a x).toNat < S16x2560.size a)
theorem k0_idx119_inb : ∀ (v13 : IVec S16 32) (v160 : IVec S16 32) (k0_hw76 : k0_chk76 v13 v160), ∀ a x, ((![v13, v160] : Fin 2 → IVec S16 32) a x).toNat < S16x2560.size a := fun v13 v160 k0_hw76 => k0_hw76

def k0_chk77 (v13 : IVec S16 32) (v164 : IVec S16 32) : Prop :=
  (∀ a x, ((![v13, v164] : Fin 2 → IVec S16 32) a x).toNat < S16x2560.size a)
theorem k0_idx120_inb : ∀ (v13 : IVec S16 32) (v164 : IVec S16 32) (k0_hw77 : k0_chk77 v13 v164), ∀ a x, ((![v13, v164] : Fin 2 → IVec S16 32) a x).toNat < S16x2560.size a := fun v13 v164 k0_hw77 => k0_hw77

def k0_chk78 (v13 : IVec S16 32) (v168 : IVec S16 32) : Prop :=
  (∀ a x, ((![v13, v168] : Fin 2 → IVec S16 32) a x).toNat < S16x2560.size a)
theorem k0_idx121_inb : ∀ (v13 : IVec S16 32) (v168 : IVec S16 32) (k0_hw78 : k0_chk78 v13 v168), ∀ a x, ((![v13, v168] : Fin 2 → IVec S16 32) a x).toNat < S16x2560.size a := fun v13 v168 k0_hw78 => k0_hw78

def k0_chk79 (v14 : IVec S16 32) (v174 : IVec S16 32) : Prop :=
  (∀ a x, ((![v14, v174] : Fin 2 → IVec S16 32) a x).toNat < S16x2560.size a)
theorem k0_idx124_inb : ∀ (v14 : IVec S16 32) (v174 : IVec S16 32) (k0_hw79 : k0_chk79 v14 v174), ∀ a x, ((![v14, v174] : Fin 2 → IVec S16 32) a x).toNat < S16x2560.size a := fun v14 v174 k0_hw79 => k0_hw79

def k0_chk80 (v14 : IVec S16 32) (v178 : IVec S16 32) : Prop :=
  (∀ a x, ((![v14, v178] : Fin 2 → IVec S16 32) a x).toNat < S16x2560.size a)
theorem k0_idx125_inb : ∀ (v14 : IVec S16 32) (v178 : IVec S16 32) (k0_hw80 : k0_chk80 v14 v178), ∀ a x, ((![v14, v178] : Fin 2 → IVec S16 32) a x).toNat < S16x2560.size a := fun v14 v178 k0_hw80 => k0_hw80

def k0_chk81 (v14 : IVec S16 32) (v182 : IVec S16 32) : Prop :=
  (∀ a x, ((![v14, v182] : Fin 2 → IVec S16 32) a x).toNat < S16x2560.size a)
theorem k0_idx126_inb : ∀ (v14 : IVec S16 32) (v182 : IVec S16 32) (k0_hw81 : k0_chk81 v14 v182), ∀ a x, ((![v14, v182] : Fin 2 → IVec S16 32) a x).toNat < S16x2560.size a := fun v14 v182 k0_hw81 => k0_hw81

def k0_chk82 (v15 : IVec S16 32) (v188 : IVec S16 32) : Prop :=
  (∀ a x, ((![v15, v188] : Fin 2 → IVec S16 32) a x).toNat < S16x2560.size a)
theorem k0_idx129_inb : ∀ (v15 : IVec S16 32) (v188 : IVec S16 32) (k0_hw82 : k0_chk82 v15 v188), ∀ a x, ((![v15, v188] : Fin 2 → IVec S16 32) a x).toNat < S16x2560.size a := fun v15 v188 k0_hw82 => k0_hw82

def k0_chk83 (v15 : IVec S16 32) (v192 : IVec S16 32) : Prop :=
  (∀ a x, ((![v15, v192] : Fin 2 → IVec S16 32) a x).toNat < S16x2560.size a)
theorem k0_idx130_inb : ∀ (v15 : IVec S16 32) (v192 : IVec S16 32) (k0_hw83 : k0_chk83 v15 v192), ∀ a x, ((![v15, v192] : Fin 2 → IVec S16 32) a x).toNat < S16x2560.size a := fun v15 v192 k0_hw83 => k0_hw83

def k0_chk84 (v15 : IVec S16 32) (v196 : IVec S16 32) : Prop :=
  (∀ a x, ((![v15, v196] : Fin 2 → IVec S16 32) a x).toNat < S16x2560.size a)
theorem k0_idx131_inb : ∀ (v15 : IVec S16 32) (v196 : IVec S16 32) (k0_hw84 : k0_chk84 v15 v196), ∀ a x, ((![v15, v196] : Fin 2 → IVec S16 32) a x).toNat < S16x2560.size a := fun v15 v196 k0_hw84 => k0_hw84

def k0_chk85 (v16 : IVec S16 32) (v202 : IVec S16 32) : Prop :=
  (∀ a x, ((![v16, v202] : Fin 2 → IVec S16 32) a x).toNat < S16x2560.size a)
theorem k0_idx134_inb : ∀ (v16 : IVec S16 32) (v202 : IVec S16 32) (k0_hw85 : k0_chk85 v16 v202), ∀ a x, ((![v16, v202] : Fin 2 → IVec S16 32) a x).toNat < S16x2560.size a := fun v16 v202 k0_hw85 => k0_hw85

def k0_chk86 (v16 : IVec S16 32) (v206 : IVec S16 32) : Prop :=
  (∀ a x, ((![v16, v206] : Fin 2 → IVec S16 32) a x).toNat < S16x2560.size a)
theorem k0_idx135_inb : ∀ (v16 : IVec S16 32) (v206 : IVec S16 32) (k0_hw86 : k0_chk86 v16 v206), ∀ a x, ((![v16, v206] : Fin 2 → IVec S16 32) a x).toNat < S16x2560.size a := fun v16 v206 k0_hw86 => k0_hw86

def k0_chk87 (v16 : IVec S16 32) (v210 : IVec S16 32) : Prop :=
  (∀ a x, ((![v16, v210] : Fin 2 → IVec S16 32) a x).toNat < S16x2560.size a)
theorem k0_idx136_inb : ∀ (v16 : IVec S16 32) (v210 : IVec S16 32) (k0_hw87 : k0_chk87 v16 v210), ∀ a x, ((![v16, v210] : Fin 2 → IVec S16 32) a x).toNat < S16x2560.size a := fun v16 v210 k0_hw87 => k0_hw87

def k0_chk88 (v17 : IVec S16 32) (v216 : IVec S16 32) : Prop :=
  (∀ a x, ((![v17, v216] : Fin 2 → IVec S16 32) a x).toNat < S16x2560.size a)
theorem k0_idx139_inb : ∀ (v17 : IVec S16 32) (v216 : IVec S16 32) (k0_hw88 : k0_chk88 v17 v216), ∀ a x, ((![v17, v216] : Fin 2 → IVec S16 32) a x).toNat < S16x2560.size a := fun v17 v216 k0_hw88 => k0_hw88

def k0_chk89 (v17 : IVec S16 32) (v220 : IVec S16 32) : Prop :=
  (∀ a x, ((![v17, v220] : Fin 2 → IVec S16 32) a x).toNat < S16x2560.size a)
theorem k0_idx140_inb : ∀ (v17 : IVec S16 32) (v220 : IVec S16 32) (k0_hw89 : k0_chk89 v17 v220), ∀ a x, ((![v17, v220] : Fin 2 → IVec S16 32) a x).toNat < S16x2560.size a := fun v17 v220 k0_hw89 => k0_hw89

def k0_chk90 (v17 : IVec S16 32) (v224 : IVec S16 32) : Prop :=
  (∀ a x, ((![v17, v224] : Fin 2 → IVec S16 32) a x).toNat < S16x2560.size a)
theorem k0_idx141_inb : ∀ (v17 : IVec S16 32) (v224 : IVec S16 32) (k0_hw90 : k0_chk90 v17 v224), ∀ a x, ((![v17, v224] : Fin 2 → IVec S16 32) a x).toNat < S16x2560.size a := fun v17 v224 k0_hw90 => k0_hw90

def k0_chk91 (v18 : IVec S16 32) (v230 : IVec S16 32) : Prop :=
  (∀ a x, ((![v18, v230] : Fin 2 → IVec S16 32) a x).toNat < S16x2560.size a)
theorem k0_idx144_inb : ∀ (v18 : IVec S16 32) (v230 : IVec S16 32) (k0_hw91 : k0_chk91 v18 v230), ∀ a x, ((![v18, v230] : Fin 2 → IVec S16 32) a x).toNat < S16x2560.size a := fun v18 v230 k0_hw91 => k0_hw91

def k0_chk92 (v18 : IVec S16 32) (v234 : IVec S16 32) : Prop :=
  (∀ a x, ((![v18, v234] : Fin 2 → IVec S16 32) a x).toNat < S16x2560.size a)
theorem k0_idx145_inb : ∀ (v18 : IVec S16 32) (v234 : IVec S16 32) (k0_hw92 : k0_chk92 v18 v234), ∀ a x, ((![v18, v234] : Fin 2 → IVec S16 32) a x).toNat < S16x2560.size a := fun v18 v234 k0_hw92 => k0_hw92

def k0_chk93 (v18 : IVec S16 32) (v238 : IVec S16 32) : Prop :=
  (∀ a x, ((![v18, v238] : Fin 2 → IVec S16 32) a x).toNat < S16x2560.size a)
theorem k0_idx146_inb : ∀ (v18 : IVec S16 32) (v238 : IVec S16 32) (k0_hw93 : k0_chk93 v18 v238), ∀ a x, ((![v18, v238] : Fin 2 → IVec S16 32) a x).toNat < S16x2560.size a := fun v18 v238 k0_hw93 => k0_hw93

def k0_chk94 (v19 : IVec S16 32) (v244 : IVec S16 32) : Prop :=
  (∀ a x, ((![v19, v244] : Fin 2 → IVec S16 32) a x).toNat < S16x2560.size a)
theorem k0_idx149_inb : ∀ (v19 : IVec S16 32) (v244 : IVec S16 32) (k0_hw94 : k0_chk94 v19 v244), ∀ a x, ((![v19, v244] : Fin 2 → IVec S16 32) a x).toNat < S16x2560.size a := fun v19 v244 k0_hw94 => k0_hw94

def k0_chk95 (v19 : IVec S16 32) (v248 : IVec S16 32) : Prop :=
  (∀ a x, ((![v19, v248] : Fin 2 → IVec S16 32) a x).toNat < S16x2560.size a)
theorem k0_idx150_inb : ∀ (v19 : IVec S16 32) (v248 : IVec S16 32) (k0_hw95 : k0_chk95 v19 v248), ∀ a x, ((![v19, v248] : Fin 2 → IVec S16 32) a x).toNat < S16x2560.size a := fun v19 v248 k0_hw95 => k0_hw95

def k0_chk96 (v19 : IVec S16 32) (v252 : IVec S16 32) : Prop :=
  (∀ a x, ((![v19, v252] : Fin 2 → IVec S16 32) a x).toNat < S16x2560.size a)
theorem k0_idx151_inb : ∀ (v19 : IVec S16 32) (v252 : IVec S16 32) (k0_hw96 : k0_chk96 v19 v252), ∀ a x, ((![v19, v252] : Fin 2 → IVec S16 32) a x).toNat < S16x2560.size a := fun v19 v252 k0_hw96 => k0_hw96

def k0_chk97 (v20 : IVec S16 32) (v258 : IVec S16 32) : Prop :=
  (∀ a x, ((![v20, v258] : Fin 2 → IVec S16 32) a x).toNat < S16x2560.size a)
theorem k0_idx154_inb : ∀ (v20 : IVec S16 32) (v258 : IVec S16 32) (k0_hw97 : k0_chk97 v20 v258), ∀ a x, ((![v20, v258] : Fin 2 → IVec S16 32) a x).toNat < S16x2560.size a := fun v20 v258 k0_hw97 => k0_hw97

def k0_chk98 (v20 : IVec S16 32) (v262 : IVec S16 32) : Prop :=
  (∀ a x, ((![v20, v262] : Fin 2 → IVec S16 32) a x).toNat < S16x2560.size a)
theorem k0_idx155_inb : ∀ (v20 : IVec S16 32) (v262 : IVec S16 32) (k0_hw98 : k0_chk98 v20 v262), ∀ a x, ((![v20, v262] : Fin 2 → IVec S16 32) a x).toNat < S16x2560.size a := fun v20 v262 k0_hw98 => k0_hw98

def k0_chk99 (v20 : IVec S16 32) (v266 : IVec S16 32) : Prop :=
  (∀ a x, ((![v20, v266] : Fin 2 → IVec S16 32) a x).toNat < S16x2560.size a)
theorem k0_idx156_inb : ∀ (v20 : IVec S16 32) (v266 : IVec S16 32) (k0_hw99 : k0_chk99 v20 v266), ∀ a x, ((![v20, v266] : Fin 2 → IVec S16 32) a x).toNat < S16x2560.size a := fun v20 v266 k0_hw99 => k0_hw99

def k0_chk100 (v21 : IVec S16 32) (v272 : IVec S16 32) : Prop :=
  (∀ a x, ((![v21, v272] : Fin 2 → IVec S16 32) a x).toNat < S16x2560.size a)
theorem k0_idx159_inb : ∀ (v21 : IVec S16 32) (v272 : IVec S16 32) (k0_hw100 : k0_chk100 v21 v272), ∀ a x, ((![v21, v272] : Fin 2 → IVec S16 32) a x).toNat < S16x2560.size a := fun v21 v272 k0_hw100 => k0_hw100

def k0_chk101 (v21 : IVec S16 32) (v276 : IVec S16 32) : Prop :=
  (∀ a x, ((![v21, v276] : Fin 2 → IVec S16 32) a x).toNat < S16x2560.size a)
theorem k0_idx160_inb : ∀ (v21 : IVec S16 32) (v276 : IVec S16 32) (k0_hw101 : k0_chk101 v21 v276), ∀ a x, ((![v21, v276] : Fin 2 → IVec S16 32) a x).toNat < S16x2560.size a := fun v21 v276 k0_hw101 => k0_hw101

def k0_chk102 (v21 : IVec S16 32) (v280 : IVec S16 32) : Prop :=
  (∀ a x, ((![v21, v280] : Fin 2 → IVec S16 32) a x).toNat < S16x2560.size a)
theorem k0_idx161_inb : ∀ (v21 : IVec S16 32) (v280 : IVec S16 32) (k0_hw102 : k0_chk102 v21 v280), ∀ a x, ((![v21, v280] : Fin 2 → IVec S16 32) a x).toNat < S16x2560.size a := fun v21 v280 k0_hw102 => k0_hw102

def k0_chk57 (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) : Prop :=
  (∀ a x, ((![v7, v69] : Fin 2 → IVec S16 32) a x).toNat < S16x2560.size a) ∧
  (∀ a x, ((![v8, v69] : Fin 2 → IVec S16 32) a x).toNat < S16x2560.size a) ∧
  (∀ a x, ((![v9, v69] : Fin 2 → IVec S16 32) a x).toNat < S16x2560.size a) ∧
  (∀ a x, ((![v10, v69] : Fin 2 → IVec S16 32) a x).toNat < S16x2560.size a) ∧
  (∀ a x, ((![v11, v69] : Fin 2 → IVec S16 32) a x).toNat < S16x2560.size a) ∧
  (∀ a x, ((![v12, v69] : Fin 2 → IVec S16 32) a x).toNat < S16x2560.size a) ∧
  (∀ a x, ((![v13, v69] : Fin 2 → IVec S16 32) a x).toNat < S16x2560.size a) ∧
  (∀ a x, ((![v14, v69] : Fin 2 → IVec S16 32) a x).toNat < S16x2560.size a) ∧
  (∀ a x, ((![v15, v69] : Fin 2 → IVec S16 32) a x).toNat < S16x2560.size a) ∧
  (∀ a x, ((![v16, v69] : Fin 2 → IVec S16 32) a x).toNat < S16x2560.size a) ∧
  (∀ a x, ((![v17, v69] : Fin 2 → IVec S16 32) a x).toNat < S16x2560.size a) ∧
  (∀ a x, ((![v18, v69] : Fin 2 → IVec S16 32) a x).toNat < S16x2560.size a) ∧
  (∀ a x, ((![v19, v69] : Fin 2 → IVec S16 32) a x).toNat < S16x2560.size a) ∧
  (∀ a x, ((![v20, v69] : Fin 2 → IVec S16 32) a x).toNat < S16x2560.size a) ∧
  (∀ a x, ((![v21, v69] : Fin 2 → IVec S16 32) a x).toNat < S16x2560.size a) ∧
  (∀ a x, ((![v22, v69] : Fin 2 → IVec S16 32) a x).toNat < S16x2560.size a)
theorem k0_idx88_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v7, v69] : Fin 2 → IVec S16 32) a x).toNat < S16x2560.size a := fun v7 v8 v9 v10 v11 v12 v13 v14 v15 v16 v17 v18 v19 v20 v21 v22 v69 k0_hw57 => k0_hw57.1
theorem k0_idx93_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v8, v69] : Fin 2 → IVec S16 32) a x).toNat < S16x2560.size a := fun v7 v8 v9 v10 v11 v12 v13 v14 v15 v16 v17 v18 v19 v20 v21 v22 v69 k0_hw57 => k0_hw57.2.1
theorem k0_idx98_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v9, v69] : Fin 2 → IVec S16 32) a x).toNat < S16x2560.size a := fun v7 v8 v9 v10 v11 v12 v13 v14 v15 v16 v17 v18 v19 v20 v21 v22 v69 k0_hw57 => k0_hw57.2.2.1
theorem k0_idx103_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v10, v69] : Fin 2 → IVec S16 32) a x).toNat < S16x2560.size a := fun v7 v8 v9 v10 v11 v12 v13 v14 v15 v16 v17 v18 v19 v20 v21 v22 v69 k0_hw57 => k0_hw57.2.2.2.1
theorem k0_idx108_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v11, v69] : Fin 2 → IVec S16 32) a x).toNat < S16x2560.size a := fun v7 v8 v9 v10 v11 v12 v13 v14 v15 v16 v17 v18 v19 v20 v21 v22 v69 k0_hw57 => k0_hw57.2.2.2.2.1
theorem k0_idx113_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v12, v69] : Fin 2 → IVec S16 32) a x).toNat < S16x2560.size a := fun v7 v8 v9 v10 v11 v12 v13 v14 v15 v16 v17 v18 v19 v20 v21 v22 v69 k0_hw57 => k0_hw57.2.2.2.2.2.1
theorem k0_idx118_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v13, v69] : Fin 2 → IVec S16 32) a x).toNat < S16x2560.size a := fun v7 v8 v9 v10 v11 v12 v13 v14 v15 v16 v17 v18 v19 v20 v21 v22 v69 k0_hw57 => k0_hw57.2.2.2.2.2.2.1
theorem k0_idx123_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v14, v69] : Fin 2 → IVec S16 32) a x).toNat < S16x2560.size a := fun v7 v8 v9 v10 v11 v12 v13 v14 v15 v16 v17 v18 v19 v20 v21 v22 v69 k0_hw57 => k0_hw57.2.2.2.2.2.2.2.1
theorem k0_idx128_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v15, v69] : Fin 2 → IVec S16 32) a x).toNat < S16x2560.size a := fun v7 v8 v9 v10 v11 v12 v13 v14 v15 v16 v17 v18 v19 v20 v21 v22 v69 k0_hw57 => k0_hw57.2.2.2.2.2.2.2.2.1
theorem k0_idx133_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v16, v69] : Fin 2 → IVec S16 32) a x).toNat < S16x2560.size a := fun v7 v8 v9 v10 v11 v12 v13 v14 v15 v16 v17 v18 v19 v20 v21 v22 v69 k0_hw57 => k0_hw57.2.2.2.2.2.2.2.2.2.1
theorem k0_idx138_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v17, v69] : Fin 2 → IVec S16 32) a x).toNat < S16x2560.size a := fun v7 v8 v9 v10 v11 v12 v13 v14 v15 v16 v17 v18 v19 v20 v21 v22 v69 k0_hw57 => k0_hw57.2.2.2.2.2.2.2.2.2.2.1
theorem k0_idx143_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v18, v69] : Fin 2 → IVec S16 32) a x).toNat < S16x2560.size a := fun v7 v8 v9 v10 v11 v12 v13 v14 v15 v16 v17 v18 v19 v20 v21 v22 v69 k0_hw57 => k0_hw57.2.2.2.2.2.2.2.2.2.2.2.1
theorem k0_idx148_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v19, v69] : Fin 2 → IVec S16 32) a x).toNat < S16x2560.size a := fun v7 v8 v9 v10 v11 v12 v13 v14 v15 v16 v17 v18 v19 v20 v21 v22 v69 k0_hw57 => k0_hw57.2.2.2.2.2.2.2.2.2.2.2.2.1
theorem k0_idx153_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v20, v69] : Fin 2 → IVec S16 32) a x).toNat < S16x2560.size a := fun v7 v8 v9 v10 v11 v12 v13 v14 v15 v16 v17 v18 v19 v20 v21 v22 v69 k0_hw57 => k0_hw57.2.2.2.2.2.2.2.2.2.2.2.2.2.1
theorem k0_idx158_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v21, v69] : Fin 2 → IVec S16 32) a x).toNat < S16x2560.size a := fun v7 v8 v9 v10 v11 v12 v13 v14 v15 v16 v17 v18 v19 v20 v21 v22 v69 k0_hw57 => k0_hw57.2.2.2.2.2.2.2.2.2.2.2.2.2.2.1
theorem k0_idx163_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v69 : IVec S16 32) (k0_hw57 : k0_chk57 v7 v8 v9 v10 v11 v12 v13 v14 v15 v16 v17 v18 v19 v20 v21 v22 v69), ∀ a x, ((![v22, v69] : Fin 2 → IVec S16 32) a x).toNat < S16x2560.size a := fun v7 v8 v9 v10 v11 v12 v13 v14 v15 v16 v17 v18 v19 v20 v21 v22 v69 k0_hw57 => k0_hw57.2.2.2.2.2.2.2.2.2.2.2.2.2.2.2

def k0_chk103 (v22 : IVec S16 32) (v286 : IVec S16 32) : Prop :=
  (∀ a x, ((![v22, v286] : Fin 2 → IVec S16 32) a x).toNat < S16x2560.size a)
theorem k0_idx164_inb : ∀ (v22 : IVec S16 32) (v286 : IVec S16 32) (k0_hw103 : k0_chk103 v22 v286), ∀ a x, ((![v22, v286] : Fin 2 → IVec S16 32) a x).toNat < S16x2560.size a := fun v22 v286 k0_hw103 => k0_hw103

def k0_chk104 (v22 : IVec S16 32) (v290 : IVec S16 32) : Prop :=
  (∀ a x, ((![v22, v290] : Fin 2 → IVec S16 32) a x).toNat < S16x2560.size a)
theorem k0_idx165_inb : ∀ (v22 : IVec S16 32) (v290 : IVec S16 32) (k0_hw104 : k0_chk104 v22 v290), ∀ a x, ((![v22, v290] : Fin 2 → IVec S16 32) a x).toNat < S16x2560.size a := fun v22 v290 k0_hw104 => k0_hw104

def k0_chk105 (v22 : IVec S16 32) (v294 : IVec S16 32) : Prop :=
  (∀ a x, ((![v22, v294] : Fin 2 → IVec S16 32) a x).toNat < S16x2560.size a)
theorem k0_idx166_inb : ∀ (v22 : IVec S16 32) (v294 : IVec S16 32) (k0_hw105 : k0_chk105 v22 v294), ∀ a x, ((![v22, v294] : Fin 2 → IVec S16 32) a x).toNat < S16x2560.size a := fun v22 v294 k0_hw105 => k0_hw105

def k0_chk56 (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) : Prop :=
  (∀ a x, ((![v72] : Fin 1 → IVec S16 32) a x).toNat < S640.size a) ∧
  (∀ a x, ((![v7, v72] : Fin 2 → IVec S16 32) a x).toNat < S16x640.size a) ∧
  (∀ a x, ((![v8, v72] : Fin 2 → IVec S16 32) a x).toNat < S16x640.size a) ∧
  (∀ a x, ((![v9, v72] : Fin 2 → IVec S16 32) a x).toNat < S16x640.size a) ∧
  (∀ a x, ((![v10, v72] : Fin 2 → IVec S16 32) a x).toNat < S16x640.size a) ∧
  (∀ a x, ((![v11, v72] : Fin 2 → IVec S16 32) a x).toNat < S16x640.size a) ∧
  (∀ a x, ((![v12, v72] : Fin 2 → IVec S16 32) a x).toNat < S16x640.size a) ∧
  (∀ a x, ((![v13, v72] : Fin 2 → IVec S16 32) a x).toNat < S16x640.size a) ∧
  (∀ a x, ((![v14, v72] : Fin 2 → IVec S16 32) a x).toNat < S16x640.size a) ∧
  (∀ a x, ((![v15, v72] : Fin 2 → IVec S16 32) a x).toNat < S16x640.size a) ∧
  (∀ a x, ((![v16, v72] : Fin 2 → IVec S16 32) a x).toNat < S16x640.size a) ∧
  (∀ a x, ((![v17, v72] : Fin 2 → IVec S16 32) a x).toNat < S16x640.size a) ∧
  (∀ a x, ((![v18, v72] : Fin 2 → IVec S16 32) a x).toNat < S16x640.size a) ∧
  (∀ a x, ((![v19, v72] : Fin 2 → IVec S16 32) a x).toNat < S16x640.size a) ∧
  (∀ a x, ((![v20, v72] : Fin 2 → IVec S16 32) a x).toNat < S16x640.size a) ∧
  (∀ a x, ((![v21, v72] : Fin 2 → IVec S16 32) a x).toNat < S16x640.size a) ∧
  (∀ a x, ((![v22, v72] : Fin 2 → IVec S16 32) a x).toNat < S16x640.size a)
theorem k0_idx87_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v72] : Fin 1 → IVec S16 32) a x).toNat < S640.size a := fun v7 v8 v9 v10 v11 v12 v13 v14 v15 v16 v17 v18 v19 v20 v21 v22 v72 k0_hw56 => k0_hw56.1
theorem k0_idx92_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v7, v72] : Fin 2 → IVec S16 32) a x).toNat < S16x640.size a := fun v7 v8 v9 v10 v11 v12 v13 v14 v15 v16 v17 v18 v19 v20 v21 v22 v72 k0_hw56 => k0_hw56.2.1
theorem k0_idx97_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v8, v72] : Fin 2 → IVec S16 32) a x).toNat < S16x640.size a := fun v7 v8 v9 v10 v11 v12 v13 v14 v15 v16 v17 v18 v19 v20 v21 v22 v72 k0_hw56 => k0_hw56.2.2.1
theorem k0_idx102_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v9, v72] : Fin 2 → IVec S16 32) a x).toNat < S16x640.size a := fun v7 v8 v9 v10 v11 v12 v13 v14 v15 v16 v17 v18 v19 v20 v21 v22 v72 k0_hw56 => k0_hw56.2.2.2.1
theorem k0_idx107_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v10, v72] : Fin 2 → IVec S16 32) a x).toNat < S16x640.size a := fun v7 v8 v9 v10 v11 v12 v13 v14 v15 v16 v17 v18 v19 v20 v21 v22 v72 k0_hw56 => k0_hw56.2.2.2.2.1
theorem k0_idx112_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v11, v72] : Fin 2 → IVec S16 32) a x).toNat < S16x640.size a := fun v7 v8 v9 v10 v11 v12 v13 v14 v15 v16 v17 v18 v19 v20 v21 v22 v72 k0_hw56 => k0_hw56.2.2.2.2.2.1
theorem k0_idx117_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v12, v72] : Fin 2 → IVec S16 32) a x).toNat < S16x640.size a := fun v7 v8 v9 v10 v11 v12 v13 v14 v15 v16 v17 v18 v19 v20 v21 v22 v72 k0_hw56 => k0_hw56.2.2.2.2.2.2.1
theorem k0_idx122_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v13, v72] : Fin 2 → IVec S16 32) a x).toNat < S16x640.size a := fun v7 v8 v9 v10 v11 v12 v13 v14 v15 v16 v17 v18 v19 v20 v21 v22 v72 k0_hw56 => k0_hw56.2.2.2.2.2.2.2.1
theorem k0_idx127_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v14, v72] : Fin 2 → IVec S16 32) a x).toNat < S16x640.size a := fun v7 v8 v9 v10 v11 v12 v13 v14 v15 v16 v17 v18 v19 v20 v21 v22 v72 k0_hw56 => k0_hw56.2.2.2.2.2.2.2.2.1
theorem k0_idx132_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v15, v72] : Fin 2 → IVec S16 32) a x).toNat < S16x640.size a := fun v7 v8 v9 v10 v11 v12 v13 v14 v15 v16 v17 v18 v19 v20 v21 v22 v72 k0_hw56 => k0_hw56.2.2.2.2.2.2.2.2.2.1
theorem k0_idx137_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v16, v72] : Fin 2 → IVec S16 32) a x).toNat < S16x640.size a := fun v7 v8 v9 v10 v11 v12 v13 v14 v15 v16 v17 v18 v19 v20 v21 v22 v72 k0_hw56 => k0_hw56.2.2.2.2.2.2.2.2.2.2.1
theorem k0_idx142_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v17, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.1
theorem k0_idx147_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v18, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.2.1
theorem k0_idx152_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v19, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.2.2.1
theorem k0_idx157_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v20, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.2.2.2.1
theorem k0_idx162_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v21, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.2.2.2.2.1
theorem k0_idx167_inb : ∀ (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v72 : IVec S16 32) (k0_hw56 : k0_chk56 v7 v8 v9 v10 v11 v12 v13 v14 v15 v16 v17 v18 v19 v20 v21 v22 v72), ∀ a x, ((![v22, v72] : Fin 2 → IVec S16 32) a x).toNat < S16x640.size a := fun v7 v8 v9 v10 v11 v12 v13 v14 v15 v16 v17 v18 v19 v20 v21 v22 v72 k0_hw56 => k0_hw56.2.2.2.2.2.2.2.2.2.2.2.2.2.2.2.2
def k0_off10 (i : grid0.Coords) (k0_t2 : Fin k0_t2_loop.trips) : Fin 2 → Nat :=
  let c2_i32_16 : BitVec 32 := 2#32
  let c0_i32_9 : BitVec 32 := 0#32
  let c1_i32_10 : BitVec 32 := 1#32
  let arg15 : BitVec 32 := Scf.iv c0_i32_9 c1_i32_10 k0_t2
  let v35 : BitVec 32 := Scalar.muli c2_i32_16 arg15
  let c1_i32_17 : BitVec 32 := 1#32
  let v36 : BitVec 32 := Scalar.addi v35 c1_i32_17
  let c16_i32_38 : BitVec 32 := 16#32
  let v64 : BitVec 32 := Scalar.muli v36 c16_i32_38
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v64.toNat, v2.toNat]
def k0_off11 (i : grid0.Coords) : Fin 2 → Nat :=
  let c496_i32 : BitVec 32 := 496#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v3 : BitVec 32 := Scalar.muli v1 c2560_i32
  ![496, v3.toNat]
def k0_off12 (i : grid0.Coords) : Fin 2 → Nat :=
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![480, v2.toNat]
def k0_off13 (i : grid0.Coords) : Fin 2 → Nat :=
  let c496_i32_14 : BitVec 32 := 496#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![496, v2.toNat]
abbrev grid1 : Pipeline.Grid := ⟨2, ![2, 80], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x256x81920 : Shape := ⟨3, ![4, 256, 81920]⟩
abbrev S20480x4 : Shape := ⟨2, ![20480, 4]⟩
abbrev S81920 : Shape := ⟨1, ![81920]⟩
abbrev S_ : Shape := ⟨0, ![]⟩
abbrev S81920x1 : Shape := ⟨2, ![81920, 1]⟩
abbrev S1 : Shape := ⟨1, ![1]⟩
abbrev S1x1 : Shape := ⟨2, ![1, 1]⟩
abbrev S4x256x20480x4 : Shape := ⟨4, ![4, 256, 20480, 4]⟩
abbrev S1x1x20480x4 : Shape := ⟨4, ![1, 1, 20480, 4]⟩
abbrev S4x256x20480 : Shape := ⟨3, ![4, 256, 20480]⟩
abbrev S1x1x20480 : Shape := ⟨3, ![1, 1, 20480]⟩

abbrev nBuf : Space → Nat
  | .hbm => 48
  | .vmem => 0
  | .smem => 0
  | _ => 0

abbrev bufTy : (tb : Table) → Fin (tcTables nBuf tb) → BufTy
  | .hbm, ⟨0, _⟩ => ⟨S4x256x81920, .f32⟩
  | .hbm, ⟨1, _⟩ => ⟨S20480x4, .i32⟩
  | .hbm, ⟨2, _⟩ => ⟨S81920, .i32⟩
  | .hbm, ⟨3, _⟩ => ⟨S_, .i32⟩
  | .hbm, ⟨4, _⟩ => ⟨S_, .i32⟩
  | .hbm, ⟨5, _⟩ => ⟨S81920, .i32⟩
  | .hbm, ⟨6, _⟩ => ⟨S81920, .i32⟩
  | .hbm, ⟨7, _⟩ => ⟨S_, .i32⟩
  | .hbm, ⟨8, _⟩ => ⟨S81920, .i32⟩
  | .hbm, ⟨9, _⟩ => ⟨S81920, .i1⟩
  | .hbm, ⟨10, _⟩ => ⟨S_, .i32⟩
  | .hbm, ⟨11, _⟩ => ⟨S81920, .i32⟩
  | .hbm, ⟨12, _⟩ => ⟨S81920, .i32⟩
  | .hbm, ⟨13, _⟩ => ⟨S81920, .i32⟩
  | .hbm, ⟨14, _⟩ => ⟨S81920x1, .i32⟩
  | .hbm, ⟨15, _⟩ => ⟨S1, .i32⟩
  | .hbm, ⟨16, _⟩ => ⟨S_, .i32⟩
  | .hbm, ⟨17, _⟩ => ⟨S81920x1, .i32⟩
  | .hbm, ⟨18, _⟩ => ⟨S81920x1, .i1⟩
  | .hbm, ⟨19, _⟩ => ⟨S1x1, .i32⟩
  | .hbm, ⟨20, _⟩ => ⟨S81920x1, .i32⟩
  | .hbm, ⟨21, _⟩ => ⟨S81920x1, .i1⟩
  | .hbm, ⟨22, _⟩ => ⟨S81920x1, .i1⟩
  | .hbm, ⟨23, _⟩ => ⟨S_, .i1⟩
  | .hbm, ⟨24, _⟩ => ⟨S81920, .i1⟩
  | .hbm, ⟨25, _⟩ => ⟨S4x256x81920, .f32⟩
  | .hbm, ⟨26, _⟩ => ⟨S4x256x81920, .i1⟩
  | .hbm, ⟨27, _⟩ => ⟨S_, .f32⟩
  | .hbm, ⟨28, _⟩ => ⟨S4x256x81920, .f32⟩
  | .hbm, ⟨29, _⟩ => ⟨S4x256x81920, .f32⟩
  | .hbm, ⟨30, _⟩ => ⟨S4x256x20480x4, .f32⟩
  | .hbm, ⟨31, _⟩ => ⟨S1x1x20480x4, .i32⟩
  | .hbm, ⟨32, _⟩ => ⟨S_, .i32⟩
  | .hbm, ⟨33, _⟩ => ⟨S1x1x20480x4, .i32⟩
  | .hbm, ⟨34, _⟩ => ⟨S1x1x20480x4, .i1⟩
  | .hbm, ⟨35, _⟩ => ⟨S1x1x20480x4, .f32⟩
  | .hbm, ⟨36, _⟩ => ⟨S4x256x20480x4, .f32⟩
  | .hbm, ⟨37, _⟩ => ⟨S4x256x20480x4, .f32⟩
  | .hbm, ⟨38, _⟩ => ⟨S_, .f32⟩
  | .hbm, ⟨39, _⟩ => ⟨S4x256x20480, .f32⟩
  | .hbm, ⟨40, _⟩ => ⟨S_, .f32⟩
  | .hbm, ⟨41, _⟩ => ⟨S1x1x20480, .f32⟩
  | .hbm, ⟨42, _⟩ => ⟨S_, .f32⟩
  | .hbm, ⟨43, _⟩ => ⟨S_, .f32⟩
  | .hbm, ⟨44, _⟩ => ⟨S1x1x20480, .f32⟩
  | .hbm, ⟨45, _⟩ => ⟨S1x1x20480, .f32⟩
  | .hbm, ⟨46, _⟩ => ⟨S4x256x20480, .f32⟩
  | .hbm, ⟨47, _⟩ => ⟨S4x256x20480, .f32⟩
  | _, _ => ⟨S4x256x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_v14 : Ref sig .tc := ⟨.hbm, 26, rfl⟩
abbrev main_call1_cst : Ref sig .tc := ⟨.hbm, 27, rfl⟩
abbrev main_call1_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]
-- ==== Proof.RefValue.lean ====
/- The reference's result, read at an index, when the pool map lists the children in order: the mean of the four
   entries of `x` at columns `4 n … 4 n + 3`. -/
module

public import proofs.«01_k».proof.Proof.Gen.ReferenceIdeal.Run
public import proofs.«01_k».proof.Proof.Gen.Pre_children
public import Idealize.ShloMosaic.Lib.Pointwise
public import Idealize.ShloMosaic.Lib.ReduceAll
public import Idealize.ShloMosaic.Lib.IdealHost
public import Idealize.ShloMosaic.Lib.Tactic.WordOmega
public import Idealize.ShloMosaic.Lib.WordCmp

@[expose] public section

set_option maxRecDepth 16384

noncomputable section

namespace Cert.Pool

open Idealize.ShloMosaic

/-! ## The mean of four children -/

/-- The mean of four extended reals: their sum, divided by four. -/
def mean4 (a b c d : EReal) : EReal := Ideal.div (a + b + c + d) 4

/-- Four ones sum to four. -/
theorem four_ones : (1 : EReal) + 1 + 1 + 1 = 4 := by
  rw [show (1 : EReal) = ((1 : ℝ) : EReal) from rfl, show (4 : EReal) = ((4 : ℝ) : EReal) from rfl,
    ← EReal.coe_add, ← EReal.coe_add, ← EReal.coe_add]
  norm_num

/-- The count of four children is the larger of it and one. -/
theorem max_one_four : max (1 : EReal) 4 = 4 := by
  rw [show (1 : EReal) = ((1 : ℝ) : EReal) from rfl, show (4 : EReal) = ((4 : ℝ) : EReal) from rfl,
    max_eq_right (EReal.coe_le_coe_iff.mpr (by norm_num))]

/-- The same the other way round. -/
theorem max_four_one : max (4 : EReal) 1 = 4 := by rw [max_comm, max_one_four]

/-- Four is not zero. -/
theorem four_ne_zero : (4 : EReal) ≠ 0 := by
  rw [show (4 : EReal) = ((4 : ℝ) : EReal) from rfl, show (0 : EReal) = ((0 : ℝ) : EReal) from rfl]
  exact_mod_cast (by norm_num : (4 : ℝ) ≠ 0)

/-- A sum times the reciprocal of four is the mean. -/
theorem mul_recip_four (s : EReal) : s * Ideal.div 1 4 = Ideal.div s 4 := Ideal.mul_one_div four_ne_zero

/-- The column of parent `i`'s child `k`. -/
def child (i : Fin 20480) (k : Fin 4) : Fin 81920 := ⟨i.val * 4 + k.val, by omega⟩

/-! ## A gather along the last axis of a rank-3 array -/

section Gather
variable {α : Type} {A B N K w : Nat}

/-- Taking entries of the last axis of `[A, B, N]` at `K` positions. -/
abbrev takeLast (A B N K : Nat)
    (wf : GatherDims.WF ⟨3, ![A, B, N]⟩ ⟨2, ![K, 1]⟩ ⟨3, ![A, B, K]⟩ [0, 1] [2] [] [2] [] 1 ![A, B, 1]) :
    GatherDims ⟨3, ![A, B, N]⟩ ⟨2, ![K, 1]⟩ ⟨3, ![A, B, K]⟩ where
  offsetDims := [0, 1]
  collapsedSliceDims := [2]
  operandBatchingDims := []
  startIndicesBatchingDims := []
  startIndexMap := [2]
  indexVectorDim := 1
  sliceSizes := ![A, B, 1]
  wf := wf

/-- Read at `(a, b, k)` it is the operand at `(a, b, idx[k, 0])`, the start read signed and clamped to the axis. -/
theorem takeLast_apply (hN : 0 < N)
    (wf : GatherDims.WF ⟨3, ![A, B, N]⟩ ⟨2, ![K, 1]⟩ ⟨3, ![A, B, K]⟩ [0, 1] [2] [] [2] [] 1 ![A, B, 1])
    (x : (⟨3, ![A, B, N]⟩ : Shape).Idx → α) (idx : IVec ⟨2, ![K, 1]⟩ w) (a : Fin A) (b : Fin B) (k : Fin K) :
    Host.gather (takeLast A B N K wf) x idx (ix3 a b k)
      = x (ix3 a b ⟨min (idx (ix2 k 0)).toInt.toNat (N - 1), by omega⟩) := by
  unfold Host.gather
  congr 1
  funext d
  refine Fin.ext ?_
  show (takeLast A B N K wf).start (ix3 a b k) idx d + (takeLast A B N K wf).batchCoord (ix3 a b k) d
      + (takeLast A B N K wf).offCoord (ix3 a b k) d = _
  rw [GatherDims.batchCoord_eq_zero _ _ _ List.not_mem_nil, Nat.add_zero]
  match d with
  | ⟨0, _⟩ =>
    unfold GatherDims.start
    rw [dif_neg (show ¬ (⟨0, by decide⟩ : Fin 3) ∈ (takeLast A B N K wf).startIndexMap from by
      show ¬ _ ∈ [(2 : Fin 3)]; decide), Nat.zero_add]
    rfl
  | ⟨1, _⟩ =>
    unfold GatherDims.start
    rw [dif_neg (show ¬ (⟨1, by decide⟩ : Fin 3) ∈ (takeLast A B N K wf).startIndexMap from by
      show ¬ _ ∈ [(2 : Fin 3)]; decide), Nat.zero_add]
    rfl
  | ⟨2, _⟩ =>
    rw [GatherDims.offCoord_eq_zero _ _ _ (fun h => ((GatherDims.mem_sKept _ _).mp h).1 (List.mem_singleton.mpr rfl)),
      Nat.add_zero]
    unfold GatherDims.start
    rw [dif_pos (show (⟨2, by decide⟩ : Fin 3) ∈ (takeLast A B N K wf).startIndexMap from List.mem_singleton.mpr rfl)]
    have hsi : (takeLast A B N K wf).siIdx (ix3 a b k) ⟨List.idxOf (⟨2, by decide⟩ : Fin 3) (takeLast A B N K wf).startIndexMap,
        List.idxOf_lt_length_iff.2 (List.mem_singleton.mpr rfl)⟩ = ix2 k 0 := by
      funext e; refine Fin.ext ?_
      match e with
      | ⟨0, _⟩ => rfl
      | ⟨1, _⟩ => rfl
    rw [hsi]
    rfl

end Gather

/-- A pool map whose row `n` lists `4 n, 4 n + 1, 4 n + 2, 4 n + 3`. -/
def Children (pm : IVec ⟨2, ![20480, 4]⟩ 32) : Prop :=
  ∀ (n : Fin 20480) (k : Fin 4), pm (ix2 n k) = BitVec.ofNat 32 (n.val * 4 + k.val)

end Cert.Pool

namespace Cert.ReferenceIdeal.Mean

open Idealize.ShloMosaic Cert.ReferenceIdeal Cert.ReferenceIdeal.Gen Cert.Pool

variable (x : FVec Ideal S4x256x81920 .f32) (pm : IVec S20480x4 32)

/-- The pool map flattened and clipped below at zero. -/
def clipped : IVec S81920 32 :=
  maxsi (broadcastInDim S81920 ![] bcast_S_S81920 (id (constantI S_ 32 0#32))) (shapeCast _ pm shapeCasts_S20480x4_S81920)

/-- The gather's start indices: a negative index counts from the end. -/
def starts : IVec S81920x1 32 :=
  broadcastInDim S81920x1 ![0] bcast_S81920_S81920x1_0
    (select (cmpi .slt (clipped pm) (broadcastInDim S81920 ![] bcast_S_S81920 (constantI S_ 32 0#32)))
      (addi (clipped pm) (broadcastInDim S81920 ![] bcast_S_S81920 (constantI S_ 32 81920#32))) (clipped pm))

/-- Which starts are in range. -/
def inRange : IVec S81920 1 :=
  Host.reduce IntOp.andi
    (andi (cmpi .sge (starts pm) (broadcastInDim S81920x1 ![] bcast_S_S81920x1 (constantI S_ 32 0#32)))
      (cmpi .sle (starts pm) (broadcastInDim S81920x1 ![0, 1] bcast_S1x1_S81920x1_0_1
        (broadcastInDim S1x1 ![1] bcast_S1_S1x1_1 (constantI S1 32 81919#32)))))
    (constantI S_ 1 1#1) reducesTo_S81920x1_S81920_d1 h_S_

/-- The children's entries, filled where the index is out of range. -/
def taken : FVec Ideal S4x256x81920 .f32 :=
  select (broadcastInDim S4x256x81920 ![2] bcast_S81920_S4x256x81920_2 (inRange pm))
    (Host.gather gather_S4x256x81920_S81920x1_S4x256x81920_01_2_n_n_2_1_42561 x (starts pm))
    (broadcastInDim S4x256x81920 ![] bcast_S_S4x256x81920 (constant S_ .f32 0x7FC00000#32))

/-- One where the pool map is not `-1`. -/
def mask : FVec Ideal S1x1x20480x4 .f32 :=
  uitofp .f32 (cmpi .ne (broadcastInDim S1x1x20480x4 ![2, 3] bcast_S20480x4_S1x1x20480x4_2_3 pm)
    (broadcastInDim S1x1x20480x4 ![] bcast_S_S1x1x20480x4 (constantI S_ 32 4294967295#32)))

/-- The reference's result as one term of its arguments. -/
def result : FVec Ideal S4x256x20480 .f32 :=
  Host.divf
    (Host.reduceAdd (mulf (shapeCast _ (taken x pm) shapeCasts_S4x256x81920_S4x256x20480x4)
        (broadcastInDim S4x256x20480x4 ![0, 1, 2, 3] bcast_S1x1x20480x4_S4x256x20480x4_0_1_2_3 (mask pm)))
      (constant S_ .f32 0x00000000#32) reducesTo_S4x256x20480x4_S4x256x20480_d3 h_S_)
    (broadcastInDim S4x256x20480 ![0, 1, 2] bcast_S1x1x20480_S4x256x20480_0_1_2
      (maximumf (broadcastInDim S1x1x20480 ![] bcast_S_S1x1x20480 (id (constant S_ .f32 0x3F800000#32)))
        (Host.reduceAdd (mask pm) (constant S_ .f32 0x00000000#32) reducesTo_S1x1x20480x4_S1x1x20480_d3 h_S_)))

variable {pm}

/-- Flattening and clipping leave the children's columns in order. -/
theorem clipped_apply (h : Children pm) (j : Fin 81920) : clipped pm (ix1 j) = BitVec.ofNat 32 j.val := by
  pointwise [clipped]
  have := h ⟨j.val / 4, by omega⟩ ⟨j.val % 4, by omega⟩
  rw [Nat.div_add_mod'] at this
  rw [this]
  show IntOp.maxsi 0#32 _ = _
  clear this
  have hj := j.isLt
  have ht : (BitVec.ofNat 32 j.val).toInt = (j.val : ℤ) := by word_omega
  have hs : (BitVec.ofNat 32 j.val).slt 0#32 = false := by
    simp only [BitVec.slt, ht, decide_eq_false_iff_not, not_lt]
    exact Int.natCast_nonneg _
  unfold IntOp.maxsi
  rw [hs]
  rfl

/-- So the gather starts at its own column. -/
theorem starts_apply (h : Children pm) (j : Fin 81920) (z : Fin 1) : starts pm (ix2 j z) = BitVec.ofNat 32 j.val := by
  pointwise [starts, clipped_apply h]
  have hj := j.isLt
  rw [show IntOp.cmpi .slt (BitVec.ofNat 32 j.val) 0#32 = 0#1 from by
    word_cmp]
  rfl

/-- Every start is in range. -/
theorem inRange_apply (h : Children pm) (j : Fin 81920) : inRange pm (ix1 j) = 1#1 := by
  unfold inRange
  refine Host.reduce_andi_one _ _ _ _ _ rfl fun i => ?_
  idx_vars i
  pointwise [starts_apply h]
  have hj := i0.isLt
  rw [show IntOp.cmpi .sge (BitVec.ofNat 32 i0.val) 0#32 = 1#1 from by word_cmp,
    show IntOp.cmpi .sle (BitVec.ofNat 32 i0.val) 81919#32 = 1#1 from by word_cmp]
  rfl

/-- The gather reads the array in place. -/
theorem taken_apply (h : Children pm) (b : Fin 4) (c : Fin 256) (j : Fin 81920) : taken x pm (ix3 b c j) = x (ix3 b c j) := by
  pointwise [taken, inRange_apply h]
  refine (takeLast_apply (A := 4) (B := 256) (N := 81920) (K := 81920) (by decide) _ x (starts pm) b c j).trans ?_
  congr 2
  refine Fin.ext ?_
  show min (starts pm (ix2 j 0)).toInt.toNat (81920 - 1) = j.val
  rw [starts_apply h]
  have hj := j.isLt
  have : (BitVec.ofNat 32 j.val).toInt = (j.val : ℤ) := by
    word_omega
  rw [this]; omega

/-- No child is masked. -/
theorem mask_apply (h : Children pm) (z z' : Fin 1) (n : Fin 20480) (k : Fin 4) : mask pm (ix4 z z' n k) = 1 := by
  pointwise [mask, h n k]
  have hn := n.isLt
  have hk := k.isLt
  rw [show IntOp.cmpi .ne (BitVec.ofNat 32 (n.val * 4 + k.val)) 4294967295#32 = 1#1 from by word_cmp]
  show ((((1#1 : BitVec 1).toNat : ℕ) : ℝ) : EReal) = 1
  simp

/-- The array regrouped by parent. -/
theorem cast_apply (v : FVec Ideal S4x256x81920 .f32) (b : Fin 4) (c : Fin 256) (n : Fin 20480) (k : Fin 4) :
    (shapeCast S4x256x20480x4 v shapeCasts_S4x256x81920_S4x256x20480x4) (ix4 b c n k) = v (ix3 b c (child n k)) := by
  pointwise
  rfl

/-- A sum over the children. -/
theorem sum_apply (v : FVec Ideal S4x256x20480x4 .f32) (b : Fin 4) (c : Fin 256) (n : Fin 20480) :
    Host.reduceAdd v (constant S_ .f32 0x00000000#32) reducesTo_S4x256x20480x4_S4x256x20480_d3 h_S_ (ix3 b c n)
      = ∑ k : Fin 4, v (ix4 b c n k) := by
  pointwise

/-- The divisor counts four children. -/
theorem count_apply (h : Children pm) (b : Fin 4) (c : Fin 256) (n : Fin 20480) :
    broadcastInDim S4x256x20480 ![0, 1, 2] bcast_S1x1x20480_S4x256x20480_0_1_2
      (maximumf (broadcastInDim S1x1x20480 ![] bcast_S_S1x1x20480 (id (constant (F := Ideal) S_ .f32 0x3F800000#32)))
        (Host.reduceAdd (mask pm) (constant S_ .f32 0x00000000#32) reducesTo_S1x1x20480x4_S1x1x20480_d3 h_S_)) (ix3 b c n)
      = 4 := by
  pointwise [mask_apply h]
  show max (Ideal.ofBits .f32 0x3F800000#32) _ = _
  rw [Ideal.ofBits_one_f32, Fin.sum_univ_four, four_ones, max_one_four]

/-- At a parent the reference's result is the mean of its four children. -/
theorem result_apply (h : Children pm) (b : Fin 4) (c : Fin 256) (n : Fin 20480) :
    result x pm (ix3 b c n)
      = mean4 (x (ix3 b c (child n 0))) (x (ix3 b c (child n 1))) (x (ix3 b c (child n 2))) (x (ix3 b c (child n 3))) := by
  have hm (k : Fin 4) : broadcastInDim S4x256x20480x4 ![0, 1, 2, 3] bcast_S1x1x20480x4_S4x256x20480x4_0_1_2_3 (mask pm) (ix4 b c n k) = 1 := by
    pointwise [mask_apply h]
  have e (k : Fin 4) : mulf (shapeCast S4x256x20480x4 (taken x pm) shapeCasts_S4x256x81920_S4x256x20480x4)
      (broadcastInDim S4x256x20480x4 ![0, 1, 2, 3] bcast_S1x1x20480x4_S4x256x20480x4_0_1_2_3 (mask pm)) (ix4 b c n k)
      = x (ix3 b c (child n k)) := by
    rw [ValueIdx.mulf_apply, cast_apply, taken_apply x h, hm]
    exact mul_one _
  unfold result mean4
  refine (ValueIdx.hostDivf_apply _ _ _).trans ?_
  rw [sum_apply, count_apply h, Fin.sum_univ_four, e, e, e, e]

end Cert.ReferenceIdeal.Mean

end
-- ==== Proof.Children.lean ====
/- The precondition read: every entry of the pool map is the number of its flat position. -/
module

public import proofs.«01_k».proof.Proof.RefValue
public import proofs.«01_k».proof.Proof.Gen.Pre_children
public import Idealize.ShloMosaic.Lib.ReduceAll
public import Idealize.ShloMosaic.Lib.Pointwise

@[expose] public section

set_option maxRecDepth 16384

noncomputable section

namespace Cert.Pre_children

open Idealize.ShloMosaic Cert.Pool

/-- The precondition's boolean is one only where the pool map lists the fine cells in order. -/
theorem children_of (x : FVec Ideal S4x256x81920 .f32) (pm : IVec S20480x4 32) (h : fn (F := Ideal) x pm = fun _ => 1#1) :
    Children pm := by
  intro n k
  haveI : Subsingleton S_.Idx := ⟨fun a b => funext fun d => d.elim0⟩
  have e := Host.reduce_andi_all _ _ _ _ _ (congrFun h (fun d => d.elim0)) (ix2 n k)
  have e2 : IntOp.cmpi .eq (pm (ix2 n k)) (BitVec.ofNat 32 (n.val * 4 + k.val)) = 1#1 := by
    rw [← e]; symm; pointwise
  by_contra hne
  rw [show IntOp.cmpi .eq (pm (ix2 n k)) (BitVec.ofNat 32 (n.val * 4 + k.val)) = BitVec.ofBool (pm (ix2 n k) == BitVec.ofNat 32 (n.val * 4 + k.val)) from rfl,
    beq_eq_false_iff_ne.2 hne] at e2
  exact absurd e2 (by decide)

end Cert.Pre_children

end
-- ==== Proof.Block.lean ====
/- What a block of the kernel's selection-matrix product computes, at any number of parents per block. -/
module

public import proofs.«01_k».proof.Proof.RefValue
public import proofs.«01_k».proof.Proof.Gen.KernelIdeal.Skeleton

@[expose] public section

set_option maxRecDepth 16384

noncomputable section

namespace Cert.Pool

open Idealize.ShloMosaic

/-- One where lane `l` is a child of parent `n`, zero elsewhere. -/
def sel (l n : ℕ) : EReal := if l / 4 = n then 1 else 0

/-- A sum over the lanes weighted by parent `n`'s column is the sum over its four children. -/
theorem sum_sel {N K : ℕ} (e : N * 4 = K) (f : Fin K → EReal) (n : Fin N) :
    ∑ l : Fin K, f l * sel l.val n.val
      = f ⟨n.val * 4, by omega⟩ + f ⟨n.val * 4 + 1, by omega⟩ + f ⟨n.val * 4 + 2, by omega⟩ + f ⟨n.val * 4 + 3, by omega⟩ := by
  subst e
  rw [Fin.sum_univ_tiles N 4 rfl, Finset.sum_eq_single n]
  · rw [Fin.sum_univ_four]
    have hs (t : Fin 4) : sel (n.val * 4 + t.val) n.val = 1 := by
      unfold sel; rw [if_pos (by omega)]
    simp only [hs, mul_one]
    rfl
  · intro j _ hj
    refine Finset.sum_eq_zero fun t _ => ?_
    have : sel (j.val * 4 + t.val) n.val = 0 := by
      unfold sel; rw [if_neg (fun h => hj (Fin.ext (by omega)))]
    rw [this, mul_zero]
  · intro h; exact absurd (Finset.mem_univ n) h

/-- The weights alone sum to four. -/
theorem sum_sel_one {N K : ℕ} (e : N * 4 = K) (n : Fin N) : ∑ l : Fin K, sel l.val n.val = 4 := by
  have h := sum_sel e (fun _ => 1) n
  simp only [one_mul] at h
  rw [h, four_ones]

/-- A word divided by four, rounding down: the quotient, less one where the signs differ and the remainder is not
    zero. -/
def quarter (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 4#32 0#32)) (Scalar.extui (Scalar.cmpi .slt 4#32 0#32))))
      (IntOp.cmpi .ne (IntOp.remsi .vector w 4#32) 0#32))
    (IntOp.subi (IntOp.divsi .vector w 4#32) 1#32)
    (IntOp.divsi .vector w 4#32)

/-- On a lane number it is the lane's parent. -/
theorem quarter_lane : ∀ l : Fin 1024, quarter (BitVec.ofNat 32 l.val) = BitVec.ofNat 32 (l.val / 4) := by
  decide +kernel

/-- A condition's bit, widened and converted, is one or zero. -/
theorem bit_one : (FloatOps.sitofp (F := Ideal) FTy.f32 (BitVec.setWidth 32 (1#1 : BitVec 1)) : EReal) = 1 := by
  show (((BitVec.setWidth 32 (1#1 : BitVec 1)).toInt : ℝ) : EReal) = 1
  rw [show (BitVec.setWidth 32 (1#1 : BitVec 1)).toInt = 1 from by decide]
  simp

/-- and a condition that fails, zero. -/
theorem bit_zero : (FloatOps.sitofp (F := Ideal) FTy.f32 (BitVec.setWidth 32 (0#1 : BitVec 1)) : EReal) = 0 := by
  show (((BitVec.setWidth 32 (0#1 : BitVec 1)).toInt : ℝ) : EReal) = 0
  rw [show (BitVec.setWidth 32 (0#1 : BitVec 1)).toInt = 0 from by decide]
  simp

/-- The comparison of a lane's parent with a column, as a float, is the selection's weight. -/
theorem quarter_sel (l n : ℕ) (hl : l < 1024) (hn : n < 1024) :
    (FloatOps.sitofp (F := Ideal) FTy.f32
      (BitVec.setWidth 32 (IntOp.cmpi .eq (quarter (BitVec.ofNat 32 l)) (BitVec.ofNat 32 n))) : EReal) = sel l n := by
  rw [quarter_lane ⟨l, hl⟩]
  unfold sel
  by_cases h : l / 4 = n
  · rw [if_pos h, show IntOp.cmpi .eq (BitVec.ofNat 32 (l / 4)) (BitVec.ofNat 32 n) = 1#1 from by word_cmp, bit_one]
  · rw [if_neg h, show IntOp.cmpi .eq (BitVec.ofNat 32 (l / 4)) (BitVec.ofNat 32 n) = 0#1 from by word_cmp, bit_zero]

/-- A word that is not `-1` passes the mask's comparison. -/
theorem ne_bit {w : BitVec 32} (h : w ≠ 4294967295#32) : IntOp.cmpi .ne w 4294967295#32 = 1#1 := by
  unfold IntOp.cmpi
  show BitVec.ofBool (w != 4294967295#32) = 1#1
  rw [bne_iff_ne.mpr h]
  rfl

end Cert.Pool

namespace Cert.KernelIdeal.Block

open Idealize.ShloMosaic Cert.KernelIdeal Cert.KernelIdeal.Gen Cert.Pool

/-- No lane of the block is masked. -/
theorem mask_apply (p : Vec Ideal S1x1x1024 .i32) (z : Fin 1) (l : Fin 1024) (h : p (ix3 0 0 l) ≠ 4294967295#32) :
    k1_pay2 (F := Ideal) p (ix2 z l) = 1 := by
  pointwise [k1_pay2]
  rw [ne_bit h]
  exact bit_one

/-- The selection matrix. -/
theorem sel_apply (l : Fin 1024) (n : Fin 256) : k1_pay3 (F := Ideal) (ix2 l n) = sel l.val n.val := by
  pointwise [k1_pay3]
  exact quarter_sel l.val n.val (by omega) (by omega)

/-- The block's result at a row and a parent is the mean of the four children in that row. -/
theorem block_apply (p : Vec Ideal S1x1x1024 .i32) (h : ∀ l, p (ix3 0 0 l) ≠ 4294967295#32) (x : Vec Ideal S256x1024 .f32)
    (r : Fin 256) (n : Fin 256) :
    k1_pay1 (F := Ideal) (k1_pay4 p x) (k1_pay5 p) k1_pay6 (ix2 r n)
      = mean4 (x (ix2 r ⟨n.val * 4, by omega⟩)) (x (ix2 r ⟨n.val * 4 + 1, by omega⟩)) (x (ix2 r ⟨n.val * 4 + 2, by omega⟩))
          (x (ix2 r ⟨n.val * 4 + 3, by omega⟩)) := by
  pointwise [k1_pay1, k1_pay4, k1_pay5, k1_pay6, mask_apply p _ _ (h _), sel_apply]
  rw [sum_sel_one (N := 256) rfl n, max_four_one, mul_recip_four]
  exact congrArg (Ideal.div · 4) (sum_sel (N := 256) rfl (fun l => (x (ix2 r l) : EReal)) n)

end Cert.KernelIdeal.Block

end
-- ==== Proof.Scatter.lean ====
/- A scatter into tile memory, read at one index: the lane that names the index, or what was there. -/
module

public import Idealize.ShloMosaic.Lib.SparseCore.Ops

@[expose] public section

noncomputable section

namespace Cert.Pool

open Idealize.ShloMosaic

variable {F : FTy → Type} [FloatOps F] {s : Shape} {e : EltTy} {d : Fin 1 → Nat}

/-- A run of overwrites none of which touches `j` leaves `j` alone. -/
theorem overwrite_miss {ι J : Type} {A : Type} (P : ι → J → Prop) [∀ k j, Decidable (P k j)] (w : ι → A) (j : J) :
    ∀ (L : List ι) (f : J → A), (∀ k ∈ L, ¬ P k j) → L.foldl (fun g k => fun j => if P k j then w k else g j) f j = f j
  | [], _, _ => rfl
  | k :: L, f, h => by
    rw [List.foldl_cons, overwrite_miss P w j L _ fun k' hk' => h k' (List.mem_cons_of_mem _ hk'), if_neg (h k List.mem_cons_self)]

/-- A run of overwrites all of whose touches of `j` write `a`, one at least touching it, leaves `a` there. -/
theorem overwrite_hit {ι J : Type} {A : Type} (P : ι → J → Prop) [∀ k j, Decidable (P k j)] (w : ι → A) (j : J) (a : A) :
    ∀ (L : List ι) (f : J → A), (∀ k ∈ L, P k j → w k = a) → (∃ k ∈ L, P k j) ∨ f j = a →
      L.foldl (fun g k => fun j => if P k j then w k else g j) f j = a
  | [], _, _, h => by rcases h with ⟨k, hk, _⟩ | h; · cases hk
                      exact h
  | k :: L, f, hw, h => by
    rw [List.foldl_cons]
    refine overwrite_hit P w j a L _ (fun k' hk' => hw k' (List.mem_cons_of_mem _ hk')) ?_
    by_cases hk : P k j
    · exact .inr ((if_pos hk).trans (hw k List.mem_cons_self hk))
    · rcases h with ⟨k', hk', hp⟩ | h
      · rcases List.mem_cons.mp hk' with e | hm
        · exact absurd (e ▸ hp) hk
        · exact .inl ⟨k', hm, hp⟩
      · exact .inr ((if_neg hk).trans h)

/-- The unmasked scatter as a run of overwrites. -/
theorem storeIdx_eq (f : Vec F s e) (idxs : Fin s.rank → IVec ⟨1, d⟩ 32) (v : Vec F ⟨1, d⟩ e) (h) :
    storeIdx f idxs v (fun _ => 1#1) false h
      = (List.finRange (d 0)).foldl (fun g k => fun j => if (∀ a, (j a).val = (idxs a (Shape.ofLane k)).toNat) then v (Shape.ofLane k) else g j) f := rfl

/-- An index no lane names keeps its value. -/
theorem storeIdx_miss (f : Vec F s e) (idxs : Fin s.rank → IVec ⟨1, d⟩ 32) (v : Vec F ⟨1, d⟩ e) (h) (j : s.Idx)
    (hj : ∀ x, ¬ ∀ a, (j a).val = (idxs a x).toNat) : storeIdx f idxs v (fun _ => 1#1) false h j = f j := by
  rw [storeIdx_eq]
  exact overwrite_miss (fun k (j : s.Idx) => ∀ a, (j a).val = (idxs a (Shape.ofLane k)).toNat) (fun k => v (Shape.ofLane k)) j _ f
    fun k _ => hj (Shape.ofLane k)

/-- An index whose lanes all carry `a`, some lane naming it, holds `a`. -/
theorem storeIdx_hit (f : Vec F s e) (idxs : Fin s.rank → IVec ⟨1, d⟩ 32) (v : Vec F ⟨1, d⟩ e) (h) (j : s.Idx) (a : Elt F e)
    (k : Fin (d 0)) (hk : ∀ b, (j b).val = (idxs b (Shape.ofLane k)).toNat)
    (hv : ∀ x, (∀ b, (j b).val = (idxs b x).toNat) → v x = a) : storeIdx f idxs v (fun _ => 1#1) false h j = a := by
  rw [storeIdx_eq]
  exact overwrite_hit (fun k (j : s.Idx) => ∀ a, (j a).val = (idxs a (Shape.ofLane k)).toNat) (fun k => v (Shape.ofLane k)) j a _ f
    (fun k _ hp => hv _ hp) (.inl ⟨k, List.mem_finRange k, hk⟩)

end Cert.Pool
-- ==== Proof.IdealRows.lean ====
/-
  One trip of the vector subcore's inner loop, said row by row. The kernel's loop body gathers four
  children of sixteen columns for each of sixteen rows; here a single row is a program of its own
  (`row`), the trip is sixteen of them (`rows`) after the loads the rows share (`group`), and the
  printed bodies are this, by definition.
-/
module

public import proofs.«01_k».proof.Defs
public import proofs.«01_k».proof.Proof.Scatter
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.ValueKit
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F]

/-- Programs of the vector subcore at grid point `i`. -/
abbrev TProg (F : FTy → Type) [FloatOps F] (i : grid0.Coords) (α : Type) : Type 1 :=
  Prog (TpuEff nD τ sig (Elt F) Λ₀ (.scVector ((i 0).castLE hcore0) ((i 1).castLE hsub0))) α

/-- Sixteen lanes of one row: the first child's column `col` and the three after it are gathered
    from `xb`, summed in order, scaled by `rc` and scattered to the columns `oc` of `ob`. -/
def row (i : grid0.Coords) (xb : Memref sig .scVector .vmem S16x2560 .f32) (ob : Memref sig .scVector .vmem S16x640 .f32)
    (rw col oc : IVec S16 32) (rc : Vec F S16 .f32)
    (hx : ∀ a x, ((![rw, col] : Fin 2 → IVec S16 32) a x).toNat < S16x2560.size a)
    (ho : ∀ a x, ((![rw, oc] : Fin 2 → IVec S16 32) a x).toNat < S16x640.size a)
    (k : TProg F i (BitVec 32)) : TProg F i (BitVec 32) := do
  let a : Vec F S16 .f32 ← SparseCore.vectorLoadIdx xb ![rw, col] hx (View.loads_vmem h_S16x2560)
  have h1 : k0_chk8 rw (k0_pay10 col) := (← Prog.lift (TpuEff.assume (k0_chk8 rw (k0_pay10 col)) (k0_chk8.dec rw (k0_pay10 col)))).down
  let b : Vec F S16 .f32 ← SparseCore.vectorLoadIdx xb ![rw, k0_pay10 col] (k0_idx8_inb rw (k0_pay10 col) h1) (View.loads_vmem h_S16x2560)
  have h2 : k0_chk8 rw (k0_pay11 col) := (← Prog.lift (TpuEff.assume (k0_chk8 rw (k0_pay11 col)) (k0_chk8.dec rw (k0_pay11 col)))).down
  let c : Vec F S16 .f32 ← SparseCore.vectorLoadIdx xb ![rw, k0_pay11 col] (k0_idx8_inb rw (k0_pay11 col) h2) (View.loads_vmem h_S16x2560)
  have h3 : k0_chk8 rw (k0_pay12 col) := (← Prog.lift (TpuEff.assume (k0_chk8 rw (k0_pay12 col)) (k0_chk8.dec rw (k0_pay12 col)))).down
  let e : Vec F S16 .f32 ← SparseCore.vectorLoadIdx xb ![rw, k0_pay12 col] (k0_idx8_inb rw (k0_pay12 col) h3) (View.loads_vmem h_S16x2560)
  SparseCore.vectorStoreIdx ob ![rw, oc] (k0_pay13 rc a b c e) (fun _ => 1#1) false ho (View.stores_vmem_bits_univ h_S16x640 rfl)
  k

/-- The last `n` of the sixteen rows. -/
def rows (i : grid0.Coords) (xb : Memref sig .scVector .vmem S16x2560 .f32) (ob : Memref sig .scVector .vmem S16x640 .f32)
    (R : Fin 16 → IVec S16 32) (col oc : IVec S16 32) (rc : Vec F S16 .f32)
    (hx : ∀ r a x, ((![R r, col] : Fin 2 → IVec S16 32) a x).toNat < S16x2560.size a)
    (ho : ∀ r a x, ((![R r, oc] : Fin 2 → IVec S16 32) a x).toNat < S16x640.size a) : (n : ℕ) → n ≤ 16 → TProg F i (BitVec 32)
  | 0, _ => pure 0#32
  | n + 1, h => row i xb ob (R ⟨15 - n, by omega⟩) col oc rc (hx ⟨15 - n, by omega⟩) (ho ⟨15 - n, by omega⟩)
      (rows i xb ob R col oc rc hx ho n (by omega))

/-- The first columns of every row are in range. -/
def ColsIn (R : Fin 16 → IVec S16 32) (col : IVec S16 32) : Prop :=
  k0_chk7 (R 0) (R 1) (R 2) (R 3) (R 4) (R 5) (R 6) (R 7) (R 8) (R 9) (R 10) (R 11) (R 12) (R 13) (R 14) (R 15) col
/-- The output columns of every row are in range. -/
def OutsIn (R : Fin 16 → IVec S16 32) (oc : IVec S16 32) : Prop :=
  k0_chk6 (R 0) (R 1) (R 2) (R 3) (R 4) (R 5) (R 6) (R 7) (R 8) (R 9) (R 10) (R 11) (R 12) (R 13) (R 14) (R 15) oc

/-- One row's condition out of all; -/
theorem ColsIn.at {R : Fin 16 → IVec S16 32} {col : IVec S16 32} (h : ColsIn R col) (r : Fin 16) :
    ∀ a x, ((![R r, col] : Fin 2 → IVec S16 32) a x).toNat < S16x2560.size a := by
  obtain ⟨h0, h1, h2, h3, h4, h5, h6, h7, h8, h9, h10, h11, h12, h13, h14, h15⟩ := h
  fin_cases r <;> assumption

/-- all of them from one on the columns. -/
theorem colsIn_of {R : Fin 16 → IVec S16 32} {col : IVec S16 32}
    (h : ∀ r a x, ((![R r, col] : Fin 2 → IVec S16 32) a x).toNat < S16x2560.size a) : ColsIn R col :=
  ⟨h 0, h 1, h 2, h 3, h 4, h 5, h 6, h 7, h 8, h 9, h 10, h 11, h 12, h 13, h 14, h 15⟩

/-- One row's condition out of all; -/
theorem OutsIn.at {R : Fin 16 → IVec S16 32} {oc : IVec S16 32} (h : OutsIn R oc) (r : Fin 16) :
    ∀ a x, ((![R r, oc] : Fin 2 → IVec S16 32) a x).toNat < S16x640.size a := by
  obtain ⟨-, h0, h1, h2, h3, h4, h5, h6, h7, h8, h9, h10, h11, h12, h13, h14, h15⟩ := h
  fin_cases r <;> assumption

/-- all of them from one on the columns. -/
theorem outsIn_of {R : Fin 16 → IVec S16 32} {oc : IVec S16 32} (h' : ∀ a x, ((![oc] : Fin 1 → IVec S16 32) a x).toNat < S640.size a)
    (h : ∀ r a x, ((![R r, oc] : Fin 2 → IVec S16 32) a x).toNat < S16x640.size a) : OutsIn R oc :=
  ⟨h', h 0, h 1, h 2, h 3, h 4, h 5, h 6, h 7, h 8, h 9, h 10, h 11, h 12, h 13, h 14, h 15⟩

/-- One trip: the shared columns and reciprocals, then the sixteen rows. -/
def group (i : grid0.Coords) (rcm : Memref sig .scVector .vmem S640 .f32) (xb : Memref sig .scVector .vmem S16x2560 .f32)
    (ob : Memref sig .scVector .vmem S16x640 .f32) (v4 v6 : IVec S16 32) (R : Fin 16 → IVec S16 32) (g : Fin k0_t3_loop.trips) :
    TProg F i (BitVec 32) := do
  have hx : ColsIn R (k0_pay8 v6 0#32 1#32 g) := (← Prog.lift (TpuEff.assume
    (k0_chk7 (R 0) (R 1) (R 2) (R 3) (R 4) (R 5) (R 6) (R 7) (R 8) (R 9) (R 10) (R 11) (R 12) (R 13) (R 14) (R 15) (k0_pay8 v6 0#32 1#32 g))
    (k0_chk7.dec (R 0) (R 1) (R 2) (R 3) (R 4) (R 5) (R 6) (R 7) (R 8) (R 9) (R 10) (R 11) (R 12) (R 13) (R 14) (R 15) (k0_pay8 v6 0#32 1#32 g)))).down
  have ho : OutsIn R (k0_pay9 v4 0#32 1#32 g) :=
    (← Prog.lift (TpuEff.assume
    (k0_chk6 (R 0) (R 1) (R 2) (R 3) (R 4) (R 5) (R 6) (R 7) (R 8) (R 9) (R 10) (R 11) (R 12) (R 13) (R 14) (R 15) (k0_pay9 v4 0#32 1#32 g))
    (k0_chk6.dec (R 0) (R 1) (R 2) (R 3) (R 4) (R 5) (R 6) (R 7) (R 8) (R 9) (R 10) (R 11) (R 12) (R 13) (R 14) (R 15) (k0_pay9 v4 0#32 1#32 g)))).down
  let rc : Vec F S16 .f32 ← SparseCore.vectorLoadIdx rcm ![k0_pay9 v4 0#32 1#32 g]
    (k0_idx6_inb (R 0) (R 1) (R 2) (R 3) (R 4) (R 5) (R 6) (R 7) (R 8) (R 9) (R 10) (R 11) (R 12) (R 13) (R 14) (R 15) (k0_pay9 v4 0#32 1#32 g) ho)
    (View.loads_vmem h_S640)
  rows i xb ob R (k0_pay8 v6 0#32 1#32 g) (k0_pay9 v4 0#32 1#32 g) rc hx.at
    ho.at 16 le_rfl

set_option maxRecDepth 65536 in
/-- The first inner loop's body gathers from the first input block into the first output block. -/
theorem t3_body_eq (i : grid0.Coords) (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_) (v4 v6 v7 v8 v9 v10 v11 v12 v13 v14 v15 v16 v17 v18 v19 v20 v21 v22 : IVec S16 32) (c9 c10 : BitVec 32) (t2 : Fin k0_t2_loop.trips) (g : Fin k0_t3_loop.trips) (a : BitVec 32) :
    k0_t3_body (F := F) i arg2 harg2 arg3 harg3 arg4 harg4 arg5 harg5 arg6 harg6 arg7 harg7 arg8 harg8 arg9 harg9 arg10 harg10 arg11 arg12 arg13 arg14 v35_r0 v4 v6 v7 v8 v9 v10 v11 v12 v13 v14 v15 v16 v17 v18 v19 v20 v21 v22 c9 c10 t2 g a
      = group i arg6 arg7 arg9 v4 v6 ![v7, v8, v9, v10, v11, v12, v13, v14, v15, v16, v17, v18, v19, v20, v21, v22] g := rfl

set_option maxRecDepth 65536 in
/-- The second inner loop's body gathers from the second input block into the second output block. -/
theorem t4_body_eq (i : grid0.Coords) (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_) (v4 v6 v7 v8 v9 v10 v11 v12 v13 v14 v15 v16 v17 v18 v19 v20 v21 v22 : IVec S16 32) (c9 c10 : BitVec 32) (t2 : Fin k0_t2_loop.trips) (g : Fin k0_t4_loop.trips) (a : BitVec 32) :
    k0_t4_body (F := F) i arg2 harg2 arg3 harg3 arg4 harg4 arg5 harg5 arg6 harg6 arg7 harg7 arg8 harg8 arg9 harg9 arg10 harg10 arg11 arg12 arg13 arg14 v35_r0 v4 v6 v7 v8 v9 v10 v11 v12 v13 v14 v15 v16 v17 v18 v19 v20 v21 v22 c9 c10 t2 g a
      = group i arg6 arg8 arg10 v4 v6 ![v7, v8, v9, v10, v11, v12, v13, v14, v15, v16, v17, v18, v19, v20, v21, v22] g := rfl

/-- One trip of the first loop: four gathers of mask words, one scatter of scales. -/
def scaleTrip (i : grid0.Coords) (pmm : Memref sig .scVector .vmem S2560 .i32) (rcm : Memref sig .scVector .vmem S640 .f32) (v4 v6 : IVec S16 32)
    (g : Fin k0_t1_loop.trips) : TProg F i (BitVec 32) := do
  have h1 : k0_chk1 (k0_pay2 v6 0#32 1#32 g) := (← Prog.lift (TpuEff.assume (k0_chk1 (k0_pay2 v6 0#32 1#32 g)) (k0_chk1.dec (k0_pay2 v6 0#32 1#32 g)))).down
  let a : Vec F S16 .i32 ← SparseCore.vectorLoadIdx pmm ![k0_pay2 v6 0#32 1#32 g] (k0_idx1_inb (k0_pay2 v6 0#32 1#32 g) h1) (View.loads_vmem h_S2560)
  have h2 : k0_chk1 (k0_pay3 v6 0#32 1#32 g) := (← Prog.lift (TpuEff.assume (k0_chk1 (k0_pay3 v6 0#32 1#32 g)) (k0_chk1.dec (k0_pay3 v6 0#32 1#32 g)))).down
  let b : Vec F S16 .i32 ← SparseCore.vectorLoadIdx pmm ![k0_pay3 v6 0#32 1#32 g] (k0_idx1_inb (k0_pay3 v6 0#32 1#32 g) h2) (View.loads_vmem h_S2560)
  have h3 : k0_chk1 (k0_pay4 v6 0#32 1#32 g) := (← Prog.lift (TpuEff.assume (k0_chk1 (k0_pay4 v6 0#32 1#32 g)) (k0_chk1.dec (k0_pay4 v6 0#32 1#32 g)))).down
  let c : Vec F S16 .i32 ← SparseCore.vectorLoadIdx pmm ![k0_pay4 v6 0#32 1#32 g] (k0_idx1_inb (k0_pay4 v6 0#32 1#32 g) h3) (View.loads_vmem h_S2560)
  have h4 : k0_chk1 (k0_pay5 v6 0#32 1#32 g) := (← Prog.lift (TpuEff.assume (k0_chk1 (k0_pay5 v6 0#32 1#32 g)) (k0_chk1.dec (k0_pay5 v6 0#32 1#32 g)))).down
  let e : Vec F S16 .i32 ← SparseCore.vectorLoadIdx pmm ![k0_pay5 v6 0#32 1#32 g] (k0_idx1_inb (k0_pay5 v6 0#32 1#32 g) h4) (View.loads_vmem h_S2560)
  have h5 : k0_chk5 (addi v4 (k0_pay7 0#32 1#32 g)) := (← Prog.lift (TpuEff.assume (k0_chk5 (addi v4 (k0_pay7 0#32 1#32 g))) (k0_chk5.dec (addi v4 (k0_pay7 0#32 1#32 g))))).down
  SparseCore.vectorStoreIdx rcm ![addi v4 (k0_pay7 0#32 1#32 g)] (k0_pay6 a b c e) (fun _ => 1#1) false (k0_idx5_inb (addi v4 (k0_pay7 0#32 1#32 g)) h5)
    (View.stores_vmem_bits_univ h_S640 rfl)
  pure 0#32

set_option maxRecDepth 65536 in
/-- The first loop's body is this trip. -/
theorem t1_body_eq (i : grid0.Coords) (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_) (v4 v6 : IVec S16 32) (g : Fin k0_t1_loop.trips) (a : BitVec 32) :
    k0_t1_body (F := F) i arg2 harg2 arg3 harg3 arg4 harg4 arg5 harg5 arg6 harg6 arg7 harg7 arg8 harg8 arg9 harg9 arg10 harg10 arg11 arg12 arg13 arg14 v35_r0 v4 v6 0#32 g a
      = scaleTrip i arg5 arg6 v4 v6 g := rfl

/-! ## The index words of a trip -/

/-- The row numbers the kernel splats. -/
def splat (r : Fin 16) : IVec S16 32 := broadcast S16 (BitVec.ofNat 32 r.val)

/-- The lane numbers. -/
abbrev lanes : IVec S16 32 := iota .scVector S16 32 [0] iota_S16_d0_w32_scVector

/-- The sixteen row vectors the program builds. -/
theorem splat_eq : (![k0_pay145, k0_pay146, k0_pay147, k0_pay148, k0_pay149, k0_pay150, k0_pay151, k0_pay152, k0_pay153, k0_pay154,
    k0_pay155, k0_pay156, k0_pay157, k0_pay158, k0_pay159, k0_pay160] : Fin 16 → IVec S16 32) = splat := by
  funext r
  fin_cases r <;> rfl

/-- Row vector `r` is `r` in every lane. -/
theorem splat_toNat (r : Fin 16) (x : S16.Idx) : (splat r x).toNat = r.val := by
  show (BitVec.ofNat 32 r.val).toNat = r.val
  rw [BitVec.toNat_ofNat]
  have := r.isLt
  omega

/-- Each lane's number. -/
theorem lanes_apply (x : S16.Idx) : lanes x = BitVec.ofNat 32 (x 0).val := iota_single_apply _ _ _ _ _ _

/-- There are sixteen lanes. -/
theorem lane_lt (x : S16.Idx) : (x 0).val < 16 := (x 0).isLt

/-- The pooling loop makes 40 trips, -/
theorem trips3 (g : Fin k0_t3_loop.trips) : g.val < 40 := lt_of_lt_of_eq g.isLt (by decide)

/-- and counts them from zero. -/
theorem iv3 (g : Fin k0_t3_loop.trips) : Scf.iv 0#32 1#32 g = BitVec.ofNat 32 g.val := by
  have := trips3 g
  apply BitVec.eq_of_toNat_eq
  simp [Scf.iv]

/-- The output column of lane `x` in trip `g`. -/
theorem out_toNat (g : Fin k0_t3_loop.trips) (x : S16.Idx) : (k0_pay9 lanes 0#32 1#32 g x).toNat = 16 * g.val + (x 0).val := by
  have := trips3 g
  have := lane_lt x
  show (lanes x + Scf.iv 0#32 1#32 g * 16#32).toNat = _
  rw [iv3, lanes_apply]
  simp only [BitVec.toNat_add, BitVec.toNat_mul, BitVec.toNat_ofNat]
  omega

/-- The first child's column of lane `x` in trip `g`. -/
theorem col_toNat (g : Fin k0_t3_loop.trips) (x : S16.Idx) : (k0_pay8 k0_pay144 0#32 1#32 g x).toNat = 64 * g.val + 4 * (x 0).val := by
  have := trips3 g
  have := lane_lt x
  show (lanes x * 4#32 + Scf.iv 0#32 1#32 g * 64#32).toNat = _
  rw [iv3, lanes_apply]
  simp only [BitVec.toNat_add, BitVec.toNat_mul, BitVec.toNat_ofNat]
  omega

/-- The second child's column, -/
theorem col1_toNat (g : Fin k0_t3_loop.trips) (x : S16.Idx) :
    (k0_pay10 (k0_pay8 k0_pay144 0#32 1#32 g) x).toNat = 64 * g.val + 4 * (x 0).val + 1 := by
  have := trips3 g
  have := lane_lt x
  show (k0_pay8 k0_pay144 0#32 1#32 g x + 1#32).toNat = _
  rw [BitVec.toNat_add, col_toNat]
  simp only [BitVec.toNat_ofNat]
  omega

/-- the third's, -/
theorem col2_toNat (g : Fin k0_t3_loop.trips) (x : S16.Idx) :
    (k0_pay11 (k0_pay8 k0_pay144 0#32 1#32 g) x).toNat = 64 * g.val + 4 * (x 0).val + 2 := by
  have := trips3 g
  have := lane_lt x
  show (k0_pay8 k0_pay144 0#32 1#32 g x + 2#32).toNat = _
  rw [BitVec.toNat_add, col_toNat]
  simp only [BitVec.toNat_ofNat]
  omega

/-- the fourth's. -/
theorem col3_toNat (g : Fin k0_t3_loop.trips) (x : S16.Idx) :
    (k0_pay12 (k0_pay8 k0_pay144 0#32 1#32 g) x).toNat = 64 * g.val + 4 * (x 0).val + 3 := by
  have := trips3 g
  have := lane_lt x
  show (k0_pay8 k0_pay144 0#32 1#32 g x + 3#32).toNat = _
  rw [BitVec.toNat_add, col_toNat]
  simp only [BitVec.toNat_ofNat]
  omega

/-- A row and a column of words below the block's extents name places of the block. -/
theorem inb_x (r : Fin 16) (col : IVec S16 32) (h : ∀ x, (col x).toNat < 2560) :
    ∀ a x, ((![splat r, col] : Fin 2 → IVec S16 32) a x).toNat < S16x2560.size a := by
  intro a x
  match a with
  | 0 => exact lt_of_eq_of_lt (splat_toNat r x) r.isLt
  | 1 => exact h x

/-- Output columns below 640 are inside the block. -/
theorem inb_o (r : Fin 16) (oc : IVec S16 32) (h : ∀ x, (oc x).toNat < 640) :
    ∀ a x, ((![splat r, oc] : Fin 2 → IVec S16 32) a x).toNat < S16x640.size a := by
  intro a x
  match a with
  | 0 => exact lt_of_eq_of_lt (splat_toNat r x) r.isLt
  | 1 => exact h x

/-- The first child's columns are inside the block, -/
theorem col_in (g : Fin k0_t3_loop.trips) : ColsIn splat (k0_pay8 k0_pay144 0#32 1#32 g) :=
  colsIn_of fun r => inb_x r _ fun x => by have := trips3 g; have := lane_lt x; rw [col_toNat]; omega
/-- the output's are, -/
theorem out_in (g : Fin k0_t3_loop.trips) : OutsIn splat (k0_pay9 lanes 0#32 1#32 g) :=
  outsIn_of (fun a x => by
      have := trips3 g; have := lane_lt x
      match a with
      | 0 => exact lt_of_eq_of_lt (out_toNat g x) (show _ < 640 by omega))
    fun r => inb_o r _ fun x => by have := trips3 g; have := lane_lt x; rw [out_toNat]; omega
/-- the second child's, -/
theorem col1_in (r : Fin 16) (g : Fin k0_t3_loop.trips) : k0_chk8 (splat r) (k0_pay10 (k0_pay8 k0_pay144 0#32 1#32 g)) :=
  inb_x r _ fun x => by have := trips3 g; have := lane_lt x; rw [col1_toNat]; omega
/-- the third's, -/
theorem col2_in (r : Fin 16) (g : Fin k0_t3_loop.trips) : k0_chk8 (splat r) (k0_pay11 (k0_pay8 k0_pay144 0#32 1#32 g)) :=
  inb_x r _ fun x => by have := trips3 g; have := lane_lt x; rw [col2_toNat]; omega
/-- the fourth's. -/
theorem col3_in (r : Fin 16) (g : Fin k0_t3_loop.trips) : k0_chk8 (splat r) (k0_pay12 (k0_pay8 k0_pay144 0#32 1#32 g)) :=
  inb_x r _ fun x => by have := trips3 g; have := lane_lt x; rw [col3_toNat]; omega

/-! ## What a block of the result holds, whole and in the middle of the loop -/

/-- Four children summed in order, scaled. -/
def pool1 (rc a b c e : F .f32) : F .f32 :=
  FloatOps.mulf (FloatOps.addf (FloatOps.addf (FloatOps.addf a b) c) e) rc

/-- The pooled block of an input block `X` and its columns' scales `C`. -/
def blockPool (X : Vec F S16x2560 .f32) (C : Vec F S640 .f32) : Vec F S16x640 .f32 := fun y =>
  have h : (y 1).val < 640 := (y 1).isLt
  pool1 (C (ix1 (n0 := 640) ⟨(y 1).val, h⟩))
    (X (ix2 (n0 := 16) (n1 := 2560) (y 0) ⟨4 * (y 1).val, by omega⟩)) (X (ix2 (n0 := 16) (n1 := 2560) (y 0) ⟨4 * (y 1).val + 1, by omega⟩))
    (X (ix2 (n0 := 16) (n1 := 2560) (y 0) ⟨4 * (y 1).val + 2, by omega⟩)) (X (ix2 (n0 := 16) (n1 := 2560) (y 0) ⟨4 * (y 1).val + 3, by omega⟩))

/-- The output block in trip `g` before row `r`: the trips before have stored their columns in every row, this trip in the rows before `r`. -/
def mix (X : Vec F S16x2560 .f32) (C : Vec F S640 .f32) (Y : Vec F S16x640 .f32) (g r : ℕ) : Vec F S16x640 .f32 := fun y =>
  if (y 1).val < 16 * g ∨ ((y 1).val < 16 * g + 16 ∧ (y 0).val < r) then blockPool X C y else Y y

/-- Before the loop nothing is pooled; -/
theorem mix_zero (X : Vec F S16x2560 .f32) (C : Vec F S640 .f32) (Y : Vec F S16x640 .f32) : mix X C Y 0 0 = Y := by
  funext y
  exact if_neg (by omega)

/-- after the last row of a trip the next trip starts; -/
theorem mix_next (X : Vec F S16x2560 .f32) (C : Vec F S640 .f32) (Y : Vec F S16x640 .f32) (g : ℕ) : mix X C Y g 16 = mix X C Y (g + 1) 0 := by
  funext y
  have h : (y 0).val < 16 := (y 0).isLt
  unfold mix
  exact if_congr (by omega) rfl rfl

/-- after the last trip the block is pooled. -/
theorem mix_last (X : Vec F S16x2560 .f32) (C : Vec F S640 .f32) (Y : Vec F S16x640 .f32) : mix X C Y 40 0 = blockPool X C := by
  funext y
  have h : (y 1).val < 640 := (y 1).isLt
  exact if_pos (by omega)

/-- A gather from a row and a column of words. -/
theorem gather_at (X : Vec F S16x2560 .f32) (r : Fin 16) (col : IVec S16 32) (h) (x : S16.Idx) (k : Fin 2560) (hk : (col x).toNat = k.val) :
    loadIdx X ![splat r, col] h x = X (ix2 (n0 := 16) (n1 := 2560) r k) := by
  refine congrArg X (funext fun a => ?_)
  match a with
  | 0 => exact Fin.ext (splat_toNat r x)
  | 1 => exact Fin.ext hk

/-- One row of one trip: the scatter takes the block from before the row to after it. -/
theorem mix_row (X : Vec F S16x2560 .f32) (C : Vec F S640 .f32) (Y : Vec F S16x640 .f32) (g : Fin k0_t3_loop.trips) (r : Fin 16) (hc h0 h1 h2 h3 ho) :
    storeIdx (mix X C Y g.val r.val) ![splat r, k0_pay9 lanes 0#32 1#32 g]
      (k0_pay13 (loadIdx C ![k0_pay9 lanes 0#32 1#32 g] hc) (loadIdx X ![splat r, k0_pay8 k0_pay144 0#32 1#32 g] h0)
        (loadIdx X ![splat r, k0_pay10 (k0_pay8 k0_pay144 0#32 1#32 g)] h1) (loadIdx X ![splat r, k0_pay11 (k0_pay8 k0_pay144 0#32 1#32 g)] h2)
        (loadIdx X ![splat r, k0_pay12 (k0_pay8 k0_pay144 0#32 1#32 g)] h3)) (fun _ => 1#1) false ho
      = mix X C Y g.val (r.val + 1) := by
  have hg := trips3 g
  funext y
  have hy0 : (y 0).val < 16 := (y 0).isLt
  have hy1 : (y 1).val < 640 := (y 1).isLt
  by_cases hy : (y 0).val = r.val ∧ 16 * g.val ≤ (y 1).val ∧ (y 1).val < 16 * g.val + 16
  · rw [show mix X C Y g.val (r.val + 1) y = blockPool X C y from if_pos (by omega)]
    refine Cert.Pool.storeIdx_hit _ _ _ _ y _ ⟨(y 1).val - 16 * g.val, show _ < 16 by omega⟩ ?_ ?_
    · intro b
      match b with
      | 0 => exact hy.1.trans (splat_toNat r (Shape.ofLane (d := ![16]) ⟨(y 1).val - 16 * g.val, show _ < 16 by omega⟩)).symm
      | 1 => exact Eq.trans (show (y 1).val = 16 * g.val + ((y 1).val - 16 * g.val) by omega) (out_toNat g (Shape.ofLane (d := ![16]) ⟨(y 1).val - 16 * g.val, show _ < 16 by omega⟩)).symm
    · intro x hx
      have e1 : (y 1).val = 16 * g.val + (x 0).val := (hx 1).trans (out_toNat g x)
      have hr : r = y 0 := Fin.ext hy.1.symm
      unfold blockPool
      refine Eq.trans (show _ = pool1 (loadIdx C ![k0_pay9 lanes 0#32 1#32 g] hc x) (loadIdx X ![splat r, k0_pay8 k0_pay144 0#32 1#32 g] h0 x)
        (loadIdx X ![splat r, k0_pay10 (k0_pay8 k0_pay144 0#32 1#32 g)] h1 x) (loadIdx X ![splat r, k0_pay11 (k0_pay8 k0_pay144 0#32 1#32 g)] h2 x)
        (loadIdx X ![splat r, k0_pay12 (k0_pay8 k0_pay144 0#32 1#32 g)] h3 x) from rfl) ?_
      rw [gather_at X r _ h0 x ⟨4 * (y 1).val, by omega⟩ ((col_toNat g x).trans (show _ = 4 * (y 1).val by omega)),
        gather_at X r _ h1 x ⟨4 * (y 1).val + 1, by omega⟩ ((col1_toNat g x).trans (show _ = 4 * (y 1).val + 1 by omega)),
        gather_at X r _ h2 x ⟨4 * (y 1).val + 2, by omega⟩ ((col2_toNat g x).trans (show _ = 4 * (y 1).val + 2 by omega)),
        gather_at X r _ h3 x ⟨4 * (y 1).val + 3, by omega⟩ ((col3_toNat g x).trans (show _ = 4 * (y 1).val + 3 by omega)), hr]
      refine congrArg (fun q => pool1 q _ _ _ _) (congrArg C (funext fun a => ?_))
      match a with
      | 0 => exact Fin.ext ((out_toNat g x).trans e1.symm)
  · rw [Cert.Pool.storeIdx_miss _ _ _ _ y fun x hx => hy ?_]
    · unfold mix
      exact if_congr (by omega) rfl rfl
    · have e0 : (y 0).val = r.val := (hx 0).trans (splat_toNat r x)
      have e1 : (y 1).val = 16 * g.val + (x 0).val := (hx 1).trans (out_toNat g x)
      have := lane_lt x
      omega

/-! ## The columns' scales -/

/-- A column's scale from its four mask words. -/
def scale1 (p0 p1 p2 p3 : BitVec 32) : F .f32 :=
  k0_pay6 (F := F) (fun _ => p0) (fun _ => p1) (fun _ => p2) (fun _ => p3) (ix1 (n0 := 16) 0)

/-- A block of scales from the block of mask words. -/
def blockScale (M : IVec S2560 32) : Vec F S640 .f32 := fun y =>
  have h : (y 0).val < 640 := (y 0).isLt
  scale1 (M (ix1 (n0 := 2560) ⟨4 * (y 0).val, by omega⟩)) (M (ix1 (n0 := 2560) ⟨4 * (y 0).val + 1, by omega⟩))
    (M (ix1 (n0 := 2560) ⟨4 * (y 0).val + 2, by omega⟩)) (M (ix1 (n0 := 2560) ⟨4 * (y 0).val + 3, by omega⟩))

/-- The scales before trip `g`. -/
def mixScale (M : IVec S2560 32) (C : Vec F S640 .f32) (g : ℕ) : Vec F S640 .f32 := fun y =>
  if (y 0).val < 16 * g then blockScale M y else C y

/-- Before the loop no scale is set; -/
theorem mixScale_zero (M : IVec S2560 32) (C : Vec F S640 .f32) : mixScale M C 0 = C := by
  funext y
  exact if_neg (by omega)

/-- after it all are. -/
theorem mixScale_last (M : IVec S2560 32) (C : Vec F S640 .f32) : mixScale M C 40 = blockScale M := by
  funext y
  have h : (y 0).val < 640 := (y 0).isLt
  exact if_pos (by omega)

/-- The scales' loop makes 40 trips, -/
theorem trips1 (g : Fin k0_t1_loop.trips) : g.val < 40 := lt_of_lt_of_eq g.isLt (by decide)

/-- and counts them from zero. -/
theorem iv1 (g : Fin k0_t1_loop.trips) : Scf.iv 0#32 1#32 g = BitVec.ofNat 32 g.val := by
  have := trips1 g
  apply BitVec.eq_of_toNat_eq
  simp [Scf.iv]

/-- Where a trip's scales are stored; -/
theorem sout_toNat (g : Fin k0_t1_loop.trips) (x : S16.Idx) : (addi lanes (k0_pay7 0#32 1#32 g) x).toNat = 16 * g.val + (x 0).val := by
  have := trips1 g
  have := lane_lt x
  show (lanes x + Scf.iv 0#32 1#32 g * 16#32).toNat = _
  rw [iv1, lanes_apply]
  simp only [BitVec.toNat_add, BitVec.toNat_mul, BitVec.toNat_ofNat]
  omega

/-- where the first child's mask words are read, -/
theorem mask0_toNat (g : Fin k0_t1_loop.trips) (x : S16.Idx) : (k0_pay2 k0_pay144 0#32 1#32 g x).toNat = 64 * g.val + 4 * (x 0).val := by
  have := trips1 g
  have := lane_lt x
  show (lanes x * 4#32 + Scf.iv 0#32 1#32 g * 64#32 + 0#32).toNat = _
  rw [iv1, lanes_apply]
  simp only [BitVec.toNat_add, BitVec.toNat_mul, BitVec.toNat_ofNat]
  omega

/-- the second's, -/
theorem mask1_toNat (g : Fin k0_t1_loop.trips) (x : S16.Idx) : (k0_pay3 k0_pay144 0#32 1#32 g x).toNat = 64 * g.val + 4 * (x 0).val + 1 := by
  have := trips1 g
  have := lane_lt x
  show (lanes x * 4#32 + Scf.iv 0#32 1#32 g * 64#32 + 1#32).toNat = _
  rw [iv1, lanes_apply]
  simp only [BitVec.toNat_add, BitVec.toNat_mul, BitVec.toNat_ofNat]
  omega

/-- the third's, -/
theorem mask2_toNat (g : Fin k0_t1_loop.trips) (x : S16.Idx) : (k0_pay4 k0_pay144 0#32 1#32 g x).toNat = 64 * g.val + 4 * (x 0).val + 2 := by
  have := trips1 g
  have := lane_lt x
  show (lanes x * 4#32 + Scf.iv 0#32 1#32 g * 64#32 + 2#32).toNat = _
  rw [iv1, lanes_apply]
  simp only [BitVec.toNat_add, BitVec.toNat_mul, BitVec.toNat_ofNat]
  omega

/-- the fourth's. -/
theorem mask3_toNat (g : Fin k0_t1_loop.trips) (x : S16.Idx) : (k0_pay5 k0_pay144 0#32 1#32 g x).toNat = 64 * g.val + 4 * (x 0).val + 3 := by
  have := trips1 g
  have := lane_lt x
  show (lanes x * 4#32 + Scf.iv 0#32 1#32 g * 64#32 + 3#32).toNat = _
  rw [iv1, lanes_apply]
  simp only [BitVec.toNat_add, BitVec.toNat_mul, BitVec.toNat_ofNat]
  omega

/-- Positions below 2560 are inside the mask's block. -/
theorem inb_m (w : IVec S16 32) (h : ∀ x, (w x).toNat < 2560) : k0_chk1 w := by
  intro a x
  match a with
  | 0 => exact h x

/-- The first child's are, -/
theorem mask0_in (g : Fin k0_t1_loop.trips) : k0_chk1 (k0_pay2 k0_pay144 0#32 1#32 g) :=
  inb_m _ fun x => by have := trips1 g; have := lane_lt x; rw [mask0_toNat]; omega
/-- the second's, -/
theorem mask1_in (g : Fin k0_t1_loop.trips) : k0_chk1 (k0_pay3 k0_pay144 0#32 1#32 g) :=
  inb_m _ fun x => by have := trips1 g; have := lane_lt x; rw [mask1_toNat]; omega
/-- the third's, -/
theorem mask2_in (g : Fin k0_t1_loop.trips) : k0_chk1 (k0_pay4 k0_pay144 0#32 1#32 g) :=
  inb_m _ fun x => by have := trips1 g; have := lane_lt x; rw [mask2_toNat]; omega
/-- the fourth's. -/
theorem mask3_in (g : Fin k0_t1_loop.trips) : k0_chk1 (k0_pay5 k0_pay144 0#32 1#32 g) :=
  inb_m _ fun x => by have := trips1 g; have := lane_lt x; rw [mask3_toNat]; omega
/-- The scales' positions are inside their block. -/
theorem sout_in (g : Fin k0_t1_loop.trips) : k0_chk5 (addi lanes (k0_pay7 0#32 1#32 g)) := by
  intro a x
  have := trips1 g
  have := lane_lt x
  match a with
  | 0 => exact lt_of_eq_of_lt (sout_toNat g x) (show _ < 640 by omega)

/-- A gather of mask words from a list of places. -/
theorem mask_at (M : IVec S2560 32) (w : IVec S16 32) (h) (x : S16.Idx) (k : Fin 2560) (hk : (w x).toNat = k.val) :
    loadIdx (F := F) (e := .i32) M ![w] h x = M (ix1 (n0 := 2560) k) := by
  refine congrArg M (funext fun a => ?_)
  match a with
  | 0 => exact Fin.ext hk

/-- One trip of the first loop takes the scales from before it to after it. -/
theorem mixScale_trip (M : IVec S2560 32) (C : Vec F S640 .f32) (g : Fin k0_t1_loop.trips) (h0 h1 h2 h3 ho) :
    storeIdx (mixScale M C g.val) ![addi lanes (k0_pay7 0#32 1#32 g)]
      (k0_pay6 (loadIdx (F := F) (e := .i32) M ![k0_pay2 k0_pay144 0#32 1#32 g] h0) (loadIdx (F := F) (e := .i32) M ![k0_pay3 k0_pay144 0#32 1#32 g] h1)
        (loadIdx (F := F) (e := .i32) M ![k0_pay4 k0_pay144 0#32 1#32 g] h2) (loadIdx (F := F) (e := .i32) M ![k0_pay5 k0_pay144 0#32 1#32 g] h3))
      (fun _ => 1#1) false ho
      = mixScale M C (g.val + 1) := by
  have hg := trips1 g
  funext y
  have hy0 : (y 0).val < 640 := (y 0).isLt
  by_cases hy : 16 * g.val ≤ (y 0).val ∧ (y 0).val < 16 * g.val + 16
  · rw [show mixScale M C (g.val + 1) y = blockScale M y from if_pos (by omega)]
    refine Cert.Pool.storeIdx_hit _ _ _ _ y _ ⟨(y 0).val - 16 * g.val, show _ < 16 by omega⟩ ?_ ?_
    · intro b
      match b with
      | 0 =>
        have e : (y 0).val = 16 * g.val + ((y 0).val - 16 * g.val) := by omega
        exact e.trans (sout_toNat g (Shape.ofLane (d := ![16]) ⟨(y 0).val - 16 * g.val, show _ < 16 by omega⟩)).symm
    · intro x hx
      have e1 : (y 0).val = 16 * g.val + (x 0).val := (hx 0).trans (sout_toNat g x)
      unfold blockScale
      refine Eq.trans (show _ = scale1 (loadIdx (F := F) (e := .i32) M ![k0_pay2 k0_pay144 0#32 1#32 g] h0 x) (loadIdx (F := F) (e := .i32) M ![k0_pay3 k0_pay144 0#32 1#32 g] h1 x)
        (loadIdx (F := F) (e := .i32) M ![k0_pay4 k0_pay144 0#32 1#32 g] h2 x) (loadIdx (F := F) (e := .i32) M ![k0_pay5 k0_pay144 0#32 1#32 g] h3 x) from rfl) ?_
      rw [mask_at M _ h0 x ⟨4 * (y 0).val, by omega⟩ ((mask0_toNat g x).trans (show _ = 4 * (y 0).val by omega)),
        mask_at M _ h1 x ⟨4 * (y 0).val + 1, by omega⟩ ((mask1_toNat g x).trans (show _ = 4 * (y 0).val + 1 by omega)),
        mask_at M _ h2 x ⟨4 * (y 0).val + 2, by omega⟩ ((mask2_toNat g x).trans (show _ = 4 * (y 0).val + 2 by omega)),
        mask_at M _ h3 x ⟨4 * (y 0).val + 3, by omega⟩ ((mask3_toNat g x).trans (show _ = 4 * (y 0).val + 3 by omega))]
  · rw [Cert.Pool.storeIdx_miss _ _ _ _ y fun x hx => hy ?_]
    · unfold mixScale
      exact if_congr (by omega) rfl rfl
    · have e1 : (y 0).val = 16 * g.val + (x 0).val := (hx 0).trans (sout_toNat g x)
      have := lane_lt x
      omega

end Cert.KernelIdeal.Tile
-- ==== Proof.IdealLoops.lean ====
/-
  The vector subcore's inner loops: what one row, one trip and one whole loop do to the blocks in
  tile memory.
-/
module

public import proofs.«01_k».proof.Proof.IdealRows

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state: the handshakes' rounds, the pipeline's rounds, the transfers' counters -/

abbrev UH : Type := URounds (GSem nD τ sig) ℕ
abbrev UU : Type := UH × (URounds (GSem nD τ sig) Unit × Counters)

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0

variable [FloatOps F] (d : Dev nD) (L : grid0.Coords)

/-- A tile memory block held outright, reading `Y`. -/
def holds {s : Shape} {e : EltTy} (b : Memref sig .scVector .vmem s e) (Y : s.Idx → Elt F e) : sProp 𝕄 :=
  iprop(∃ f, ⌜(b.access (.whole s)).read (Elt F) f = Y⌝
    ∗ ((b.access (.whole s)).loc (V d (cV L) (jV L)) ↦[(b.access (.whole s)).set]{fullShare} f))

/-- A gather from a block that is held. -/
theorem wp_gather {s t : Shape} {e : EltTy} {α : Type} (b : Memref sig .scVector .vmem s e) (idxs : Fin s.rank → IVec t 32) (h) (hl) (Y : s.Idx → Elt F e)
    (k : Vec F t e → TProg F L α) (Q : α → sProp 𝕄) :
    holds d L b Y ⊢ iprop((holds d L b Y -∗ wp frame (wpE (defs₀ (F := F)) 𝒱₀ (V d (cV L) (jV L)) none) Set.univ (k (loadIdx Y idxs h)) Q)
      -∗ wp frame (wpE (defs₀ (F := F)) 𝒱₀ (V d (cV L) (jV L)) none) Set.univ (SparseCore.vectorLoadIdx b idxs h hl >>= k) Q) := by
  unfold holds
  iintro ⟨%f, %hf, H⟩ Hk
  iapply (SparseCore.wp_vectorLoadIdx (defs := defs₀ (F := F)) 𝒱₀ (V d (cV L) (jV L)) none Set.univ (base := b) (idxs := idxs) (h := h) (hl := hl) (k := k)
    subset_rfl) $$ H
  iintro H
  rw [hf]
  iapply Hk
  iexists f
  isplitr; · ipureintro; exact hf
  iexact H

/-- A scatter into a block that is held. -/
theorem wp_scatter {s : Shape} {e : EltTy} {n : Fin 1 → Nat} {α : Type} (b : Memref sig .scVector .vmem s e) (idxs : Fin s.rank → IVec ⟨1, n⟩ 32)
    (v : Vec F ⟨1, n⟩ e) (mk) (ad) (h) (hs) (Y : s.Idx → Elt F e) (k : PUnit → TProg F L α) (Q : α → sProp 𝕄) :
    holds d L b Y ⊢ iprop((holds d L b (storeIdx Y idxs v mk ad h) -∗ wp frame (wpE (defs₀ (F := F)) 𝒱₀ (V d (cV L) (jV L)) none) Set.univ (k ⟨⟩) Q)
      -∗ wp frame (wpE (defs₀ (F := F)) 𝒱₀ (V d (cV L) (jV L)) none) Set.univ (SparseCore.vectorStoreIdx b idxs v mk ad h hs >>= k) Q) := by
  unfold holds
  iintro ⟨%f, %hf, H⟩ Hk
  iapply (SparseCore.wp_vectorStoreIdx (defs := defs₀ (F := F)) 𝒱₀ (V d (cV L) (jV L)) none Set.univ (base := b) (idxs := idxs) (v := v) (mask := mk) (add := ad)
    (h := h) (hs := hs) (k := k)) $$ H
  iintro H
  iapply Hk
  iexists _
  isplitr
  swap; · iexact H
  ipureintro
  rw [View.read_write_univ, hf]

/-- An assumption that holds. -/
theorem wp_holds {α : Type} {P : Prop} (dec : Decidable P) (h : P) (k : PLift P → TProg F L α) (Q : α → sProp 𝕄) :
    wp frame (wpE (defs₀ (F := F)) 𝒱₀ (V d (cV L) (jV L)) none) Set.univ (k ⟨h⟩) Q
      ⊢ wp frame (wpE (defs₀ (F := F)) 𝒱₀ (V d (cV L) (jV L)) none) Set.univ (Prog.lift (TpuEff.assume P dec) >>= k) Q := by
  refine Entails.of_eq ?_
  exact (wp_assume_of (Ix := HIx 1) (Name := ℕ) (U := UU) (Lvl := ℕ) 𝒱₀ (V d (cV L) (jV L)) none Set.univ h).symm

/-- One row of one trip. -/
theorem wp_row (xb : Memref sig .scVector .vmem S16x2560 .f32) (ob : Memref sig .scVector .vmem S16x640 .f32) (X : Vec F S16x2560 .f32) (C : Vec F S640 .f32)
    (Y : Vec F S16x640 .f32) (g : Fin k0_t3_loop.trips) (r : Fin 16) (hc hx ho) (k : TProg F L (BitVec 32)) (Q : BitVec 32 → sProp 𝕄) :
    iprop(holds d L xb X ∗ holds d L ob (mix X C Y g.val r.val))
      ⊢ iprop((iprop(holds d L xb X ∗ holds d L ob (mix X C Y g.val (r.val + 1)))
          -∗ wp frame (wpE (defs₀ (F := F)) 𝒱₀ (V d (cV L) (jV L)) none) Set.univ k Q)
        -∗ wp frame (wpE (defs₀ (F := F)) 𝒱₀ (V d (cV L) (jV L)) none) Set.univ
          (row L xb ob (splat r) (k0_pay8 k0_pay144 0#32 1#32 g) (k0_pay9 lanes 0#32 1#32 g) (loadIdx C ![k0_pay9 lanes 0#32 1#32 g] hc) hx ho k) Q) := by
  unfold row
  iintro ⟨Hx, Ho⟩ Hk
  iapply (wp_gather d L xb _ _ _ X _ Q) $$ Hx
  iintro Hx
  iapply (wp_holds d L _ (col1_in r g) _ Q)
  iapply (wp_gather d L xb _ _ _ X _ Q) $$ Hx
  iintro Hx
  iapply (wp_holds d L _ (col2_in r g) _ Q)
  iapply (wp_gather d L xb _ _ _ X _ Q) $$ Hx
  iintro Hx
  iapply (wp_holds d L _ (col3_in r g) _ Q)
  iapply (wp_gather d L xb _ _ _ X _ Q) $$ Hx
  iintro Hx
  iapply (wp_scatter d L ob _ _ _ _ _ _ _ _ Q) $$ Ho
  rw [mix_row]
  iintro Ho
  iapply Hk
  isplitl [Hx] <;> iassumption

/-- The last `n` rows of one trip. -/
theorem wp_rows (xb : Memref sig .scVector .vmem S16x2560 .f32) (ob : Memref sig .scVector .vmem S16x640 .f32) (X : Vec F S16x2560 .f32) (C : Vec F S640 .f32)
    (Y : Vec F S16x640 .f32) (g : Fin k0_t3_loop.trips) (hc hx ho) :
    ∀ (n : ℕ) (hn : n ≤ 16), iprop(holds d L xb X ∗ holds d L ob (mix X C Y g.val (16 - n)))
      ⊢ wp frame (wpE (defs₀ (F := F)) 𝒱₀ (V d (cV L) (jV L)) none) Set.univ
          (rows L xb ob splat (k0_pay8 k0_pay144 0#32 1#32 g) (k0_pay9 lanes 0#32 1#32 g) (loadIdx C ![k0_pay9 lanes 0#32 1#32 g] hc) hx ho n hn)
          fun _ => iprop(holds d L xb X ∗ holds d L ob (mix X C Y (g.val + 1) 0))
  | 0, _ => by
    show _ ⊢ wp _ _ _ (Prog.ret _) _
    rw [← mix_next]
    iintro H
    sl_step
    iexact H
  | n + 1, hn => by
    unfold rows
    iintro H
    have e : 16 - (n + 1) = 15 - n := by omega
    have hr : 15 - n < 16 := by omega
    have hn' : n ≤ 16 := by omega
    rw [e]
    iapply (wp_row d L xb ob X C Y g ⟨15 - n, hr⟩ hc _ _ _ _) $$ H
    have e' : 15 - n + 1 = 16 - n := by omega
    simp only [e']
    iintro H
    iapply (wp_rows xb ob X C Y g hc hx ho n hn') $$ H

/-- One trip: a gather of the scales, then the sixteen rows. -/
theorem wp_group (rcm : Memref sig .scVector .vmem S640 .f32) (xb : Memref sig .scVector .vmem S16x2560 .f32) (ob : Memref sig .scVector .vmem S16x640 .f32)
    (X : Vec F S16x2560 .f32) (C : Vec F S640 .f32) (Y : Vec F S16x640 .f32) (g : Fin k0_t3_loop.trips) :
    iprop(holds d L rcm C ∗ holds d L xb X ∗ holds d L ob (mix X C Y g.val 0))
      ⊢ wp frame (wpE (defs₀ (F := F)) 𝒱₀ (V d (cV L) (jV L)) none) Set.univ (group L rcm xb ob lanes k0_pay144 splat g)
          fun _ => iprop(holds d L rcm C ∗ holds d L xb X ∗ holds d L ob (mix X C Y (g.val + 1) 0)) := by
  unfold group
  iintro ⟨Hc, H⟩
  iapply (wp_holds d L _ (col_in g) _ _)
  iapply (wp_holds d L _ (out_in g) _ _)
  iapply (wp_gather d L rcm _ _ _ C _ _) $$ Hc
  iintro Hc
  ihave Hw := (wp_rows d L xb ob X C Y g _ _ _ 16 le_rfl) $$ H
  iapply (wp_wand frame _ _) $$ Hw
  iintro %v H
  isplitl [Hc]; · iexact Hc
  iexact H

/-- One trip of the first loop. -/
theorem wp_scaleTrip (pmm : Memref sig .scVector .vmem S2560 .i32) (rcm : Memref sig .scVector .vmem S640 .f32) (M : IVec S2560 32) (C : Vec F S640 .f32)
    (g : Fin k0_t1_loop.trips) :
    iprop(holds d L (e := .i32) pmm M ∗ holds d L rcm (mixScale M C g.val))
      ⊢ wp frame (wpE (defs₀ (F := F)) 𝒱₀ (V d (cV L) (jV L)) none) Set.univ (scaleTrip L pmm rcm lanes k0_pay144 g)
          fun _ => (iprop(holds d L (e := .i32) pmm M ∗ holds d L rcm (mixScale M C (g.val + 1))) : sProp 𝕄) := by
  unfold scaleTrip
  iintro ⟨Hm, Hc⟩
  iapply (wp_holds d L _ (mask0_in g) _ _)
  iapply (wp_gather d L pmm _ _ _ M _ _) $$ Hm
  iintro Hm
  iapply (wp_holds d L _ (mask1_in g) _ _)
  iapply (wp_gather d L pmm _ _ _ M _ _) $$ Hm
  iintro Hm
  iapply (wp_holds d L _ (mask2_in g) _ _)
  iapply (wp_gather d L pmm _ _ _ M _ _) $$ Hm
  iintro Hm
  iapply (wp_holds d L _ (mask3_in g) _ _)
  iapply (wp_gather d L pmm _ _ _ M _ _) $$ Hm
  iintro Hm
  iapply (wp_holds d L _ (sout_in g) _ _)
  iapply (wp_scatter d L rcm _ _ _ _ _ _ _ _ _) $$ Hc
  rw [mixScale_trip]
  iintro Hc
  sl_step
  isplitl [Hm] <;> iassumption

/-- The first loop leaves the scales of the mask words. -/
theorem wp_t1 {α : Type} (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_)
    (M : IVec S2560 32) (C : Vec F S640 .f32) (kk : BitVec 32 → TProg F L α) (Q : α → sProp 𝕄) :
    iprop(holds d L (e := .i32) arg5 M ∗ holds d L arg6 C)
      ⊢ iprop((∀ v, iprop(holds d L (e := .i32) arg5 M ∗ holds d L arg6 (blockScale M)) -∗
          wp frame (wpE (defs₀ (F := F)) 𝒱₀ (V d (cV L) (jV L)) none) Set.univ (kk v) Q)
        -∗ wp frame (wpE (defs₀ (F := F)) 𝒱₀ (V d (cV L) (jV L)) none) Set.univ
          (Scf.Loop.for k0_t1_loop k0_t1_ok 0#32 (k0_t1_body L arg2 harg2 arg3 harg3 arg4 harg4 arg5 harg5 arg6 harg6 arg7 harg7 arg8 harg8 arg9 harg9 arg10 harg10 arg11 arg12 arg13 arg14 v35_r0 lanes k0_pay144 0#32) >>= kk) Q) := by
  have e := Scf.wp_for_bind frame (wpE (defs₀ (F := F)) 𝒱₀ (V d (cV L) (jV L)) none) Set.univ k0_t1_loop.lb k0_t1_loop.ub k0_t1_loop.st k0_t1_ok 0#32
    (k0_t1_body L arg2 harg2 arg3 harg3 arg4 harg4 arg5 harg5 arg6 harg6 arg7 harg7 arg8 harg8 arg9 harg9 arg10 harg10 arg11 arg12 arg13 arg14 v35_r0 lanes k0_pay144 0#32)
    (fun g _ => (iprop(holds d L (e := .i32) arg5 M ∗ holds d L arg6 (mixScale M C g)) : sProp 𝕄))
    (fun g acc => by rw [t1_body_eq]; exact wp_scaleTrip d L arg5 arg6 M C g) (kk := kk) (Q := Q)
  simp only [mixScale_zero] at e
  refine e.trans ?_
  have e40 : Scf.trips k0_t1_loop.lb k0_t1_loop.ub k0_t1_loop.st = 40 := by decide
  simp only [e40, mixScale_last]
  exact .rfl

/-- The first inner loop leaves the pooled block of arg7 in arg9. -/
theorem wp_t3 {α : Type} (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_) (c9 c10 : BitVec 32) (t2 : Fin k0_t2_loop.trips)
    (X : Vec F S16x2560 .f32) (C : Vec F S640 .f32) (Y : Vec F S16x640 .f32) (kk : BitVec 32 → TProg F L α) (Q : α → sProp 𝕄) :
    iprop(holds d L arg6 C ∗ holds d L arg7 X ∗ holds d L arg9 Y)
      ⊢ iprop((∀ v, iprop(holds d L arg6 C ∗ holds d L arg7 X ∗ holds d L arg9 (blockPool X C)) -∗
          wp frame (wpE (defs₀ (F := F)) 𝒱₀ (V d (cV L) (jV L)) none) Set.univ (kk v) Q)
        -∗ wp frame (wpE (defs₀ (F := F)) 𝒱₀ (V d (cV L) (jV L)) none) Set.univ
          (Scf.Loop.for k0_t3_loop k0_t3_ok 0#32 (k0_t3_body L arg2 harg2 arg3 harg3 arg4 harg4 arg5 harg5 arg6 harg6 arg7 harg7 arg8 harg8 arg9 harg9 arg10 harg10 arg11 arg12 arg13 arg14 v35_r0
            lanes k0_pay144 k0_pay145 k0_pay146 k0_pay147 k0_pay148 k0_pay149 k0_pay150 k0_pay151 k0_pay152 k0_pay153 k0_pay154 k0_pay155 k0_pay156 k0_pay157 k0_pay158 k0_pay159 k0_pay160 c9 c10 t2) >>= kk) Q) := by
  have e := Scf.wp_for_bind frame (wpE (defs₀ (F := F)) 𝒱₀ (V d (cV L) (jV L)) none) Set.univ k0_t3_loop.lb k0_t3_loop.ub k0_t3_loop.st k0_t3_ok 0#32
    (k0_t3_body L arg2 harg2 arg3 harg3 arg4 harg4 arg5 harg5 arg6 harg6 arg7 harg7 arg8 harg8 arg9 harg9 arg10 harg10 arg11 arg12 arg13 arg14 v35_r0 lanes k0_pay144 k0_pay145 k0_pay146 k0_pay147 k0_pay148 k0_pay149 k0_pay150 k0_pay151 k0_pay152 k0_pay153 k0_pay154 k0_pay155 k0_pay156 k0_pay157 k0_pay158 k0_pay159 k0_pay160 c9 c10 t2)
    (fun g _ => (iprop(holds d L arg6 C ∗ holds d L arg7 X ∗ holds d L arg9 (mix X C Y g 0)) : sProp 𝕄))
    (fun g acc => by rw [t3_body_eq, splat_eq]; exact wp_group d L arg6 arg7 arg9 X C Y g) (kk := kk) (Q := Q)
  simp only [mix_zero] at e
  refine e.trans ?_
  have e40 : Scf.trips k0_t3_loop.lb k0_t3_loop.ub k0_t3_loop.st = 40 := by decide
  simp only [e40, mix_last]
  exact .rfl

/-- The second inner loop leaves the pooled block of arg8 in arg10. -/
theorem wp_t4 {α : Type} (arg2 : Memref sig .scVector .hbm S1024x81920 .f32) (harg2 : arg2.IsWhole) (arg3 : Memref sig .scVector .hbm S81920 .i32) (harg3 : arg3.IsWhole) (arg4 : Memref sig .scVector .hbm S1024x20480 .f32) (harg4 : arg4.IsWhole) (arg5 : Memref sig .scVector .vmem S2560 .i32) (harg5 : arg5.IsWhole) (arg6 : Memref sig .scVector .vmem S640 .f32) (harg6 : arg6.IsWhole) (arg7 : Memref sig .scVector .vmem S16x2560 .f32) (harg7 : arg7.IsWhole) (arg8 : Memref sig .scVector .vmem S16x2560 .f32) (harg8 : arg8.IsWhole) (arg9 : Memref sig .scVector .vmem S16x640 .f32) (harg9 : arg9.IsWhole) (arg10 : Memref sig .scVector .vmem S16x640 .f32) (harg10 : arg10.IsWhole) (arg11 arg12 arg13 arg14 v35_r0 : DmaSems sig S_) (c9 c10 : BitVec 32) (t2 : Fin k0_t2_loop.trips)
    (X : Vec F S16x2560 .f32) (C : Vec F S640 .f32) (Y : Vec F S16x640 .f32) (kk : BitVec 32 → TProg F L α) (Q : α → sProp 𝕄) :
    iprop(holds d L arg6 C ∗ holds d L arg8 X ∗ holds d L arg10 Y)
      ⊢ iprop((∀ v, iprop(holds d L arg6 C ∗ holds d L arg8 X ∗ holds d L arg10 (blockPool X C)) -∗
          wp frame (wpE (defs₀ (F := F)) 𝒱₀ (V d (cV L) (jV L)) none) Set.univ (kk v) Q)
        -∗ wp frame (wpE (defs₀ (F := F)) 𝒱₀ (V d (cV L) (jV L)) none) Set.univ
          (Scf.Loop.for k0_t4_loop k0_t4_ok 0#32 (k0_t4_body L arg2 harg2 arg3 harg3 arg4 harg4 arg5 harg5 arg6 harg6 arg7 harg7 arg8 harg8 arg9 harg9 arg10 harg10 arg11 arg12 arg13 arg14 v35_r0
            lanes k0_pay144 k0_pay145 k0_pay146 k0_pay147 k0_pay148 k0_pay149 k0_pay150 k0_pay151 k0_pay152 k0_pay153 k0_pay154 k0_pay155 k0_pay156 k0_pay157 k0_pay158 k0_pay159 k0_pay160 c9 c10 t2) >>= kk) Q) := by
  have e := Scf.wp_for_bind frame (wpE (defs₀ (F := F)) 𝒱₀ (V d (cV L) (jV L)) none) Set.univ k0_t4_loop.lb k0_t4_loop.ub k0_t4_loop.st k0_t4_ok 0#32
    (k0_t4_body L arg2 harg2 arg3 harg3 arg4 harg4 arg5 harg5 arg6 harg6 arg7 harg7 arg8 harg8 arg9 harg9 arg10 harg10 arg11 arg12 arg13 arg14 v35_r0 lanes k0_pay144 k0_pay145 k0_pay146 k0_pay147 k0_pay148 k0_pay149 k0_pay150 k0_pay151 k0_pay152 k0_pay153 k0_pay154 k0_pay155 k0_pay156 k0_pay157 k0_pay158 k0_pay159 k0_pay160 c9 c10 t2)
    (fun g _ => (iprop(holds d L arg6 C ∗ holds d L arg8 X ∗ holds d L arg10 (mix X C Y g 0)) : sProp 𝕄))
    (fun g acc => by rw [t4_body_eq, splat_eq]; exact wp_group d L arg6 arg8 arg10 X C Y g) (kk := kk) (Q := Q)
  simp only [mix_zero] at e
  refine e.trans ?_
  have e40 : Scf.trips k0_t4_loop.lb k0_t4_loop.ub k0_t4_loop.st = 40 := by decide
  simp only [e40, mix_last]
  exact .rfl

end Cert.KernelIdeal.Tile
-- ==== Proof.IdealDma.lean ====
/-
  The vector subcore's transfers: a block fetched into tile memory, a block stored from it, and the
  waits, each as a rule about what is held; and what the stored blocks are as parts of one array.
-/
module

public import proofs.«01_k».proof.Proof.IdealLoops

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1024x81920 EltTy.f32)
local notation "pV" => (Memref.whole Cert.KernelIdeal.main_v1_scv : Memref Cert.KernelIdeal.sig Kind.scVector Space.hbm Cert.KernelIdeal.S81920 EltTy.i32)
local notation "oV" => (Memref.whole Cert.KernelIdeal.main_v2_scv : Memref Cert.KernelIdeal.sig Kind.scVector Space.hbm Cert.KernelIdeal.S1024x20480 EltTy.f32)

variable [FloatOps F] (d : Dev nD) (L : grid0.Coords)

/-! ## Blocks held, through their own view -/

/-- A block seen whole has the elements of its own view, -/
theorem set_access {sp : Space} {s : Shape} {e : EltTy} (b : Memref sig .scVector sp s e) : (b.access (.whole s)).set = b.view.set := by
  rw [View.set_slice, Rect.set_whole]; rfl

/-- and reads the same through it. -/
theorem read_access {sp : Space} {s : Shape} {e : EltTy} (b : Memref sig .scVector sp s e) (f : b.view.ty.Contents (Elt F)) :
    (b.access (.whole s)).read (Elt F) f = b.view.read (Elt F) f := by
  funext x
  show _root_.cast _ (f (b.view.emb ((Rect.whole s).emb x))) = _root_.cast _ (f (b.view.emb x))
  rw [Rect.emb_whole_apply]

/-- A block held reads `Y` through its view. -/
theorem holds_view {s : Shape} {e : EltTy} (b : Memref sig .scVector .vmem s e) (Y : s.Idx → Elt F e) :
    holds d L b Y = (iprop(∃ f, ⌜b.view.read (Elt F) f = Y⌝ ∗ (b.view.loc (V d (cV L) (jV L)) ↦[b.view.set]{fullShare} f)) : sProp 𝕄) := by
  unfold holds
  rw [set_access]
  simp only [read_access]

/-! ## What a core owes while it waits -/

/-- The core owes `O`, and the waits it has recorded are `W`'s or its transfers'. -/
def owed (O : CellTallies nD τ sig (HIx 1)) (W : Waits sig (HIx 1)) : sProp 𝕄 :=
  iprop(∃ W', ⌜∀ p ∈ W', p ∈ W ∨ p.2 = none⌝ ∗ owes (V d (cV L) (jV L)) O W')

/-- A transfer under way on `sem`, of a block the size of `b`, which will hand over `D`. -/
abbrev flying {sp : Space} {s : Shape} {e : EltTy} (sem : DmaSem sig) (b : Memref sig .scVector sp s e) (D : sProp 𝕄) : sProp 𝕄 :=
  Transfers.Flight countersEmb (V d (cV L) (jV L)) (.dma sem) (default : HIx 1) b.view.dmaCredit D

/-- A wait for a transfer under way. -/
theorem wp_land {sp sp' sp'' : Space} {s s' : Shape} {e e' : EltTy} {α : Type} (sem : DmaSem sig) (b : Memref sig .scVector sp s e)
    (src : Memref sig .scVector sp' s' e') (dst : Memref sig .scVector sp'' s e) (hb : dst.view.dmaCredit = b.view.dmaCredit)
    (hsrc : src.view.WordExact) (hdst : dst.view.WordExact)
    (D : sProp 𝕄) (O : CellTallies nD τ sig (HIx 1)) (W : Waits sig (HIx 1)) (k : PUnit → TProg F L α) (Q : α → sProp 𝕄) :
    iprop(flying d L sem b D ∗ owed d L O W ∗ Transfers.MayWaits (V d (cV L) (jV L)) (default : HIx 1) O)
      ⊢ iprop((iprop(D ∗ semVal (V d (cV L) (jV L), .dma sem) 0 ∗ owed d L O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.waitDma2 sem src dst hsrc hdst) k) Q) := by
  unfold owed
  iintro ⟨Hf, ⟨%W', %hW, HO⟩, Hmw⟩ Hk
  iapply (Transfers.wp_waitLocalO countersEmb 𝒱₀ (V d (cV L) (jV L)) none (default : HIx 1) hb) $$ [Hf HO Hmw]
  · isplitl [Hf]; · iexact Hf
    isplitl [HO]; · iexact HO
    iapply (Transfers.MayWaits.elim (SemLoc.dma sem)) $$ Hmw
  iintro ⟨HD, Hv, HO⟩
  iapply Hk
  isplitl [HD]; · iexact HD
  isplitl [Hv]; · iexact Hv
  iexists _
  isplitr; swap; · iexact HO
  ipureintro; intro p hp
  rcases Finset.mem_insert.mp hp with hp | hp
  · exact .inr (hp ▸ rfl)
  · exact hW p hp

/-- A fetch of `src` into the block `b`. -/
theorem wp_fetch {sp : Space} {s : Shape} {e : EltTy} {α : Type} (sem : DmaSem sig) (b : Memref sig .scVector .vmem s e) (src : Memref sig .scVector sp s e)
    (hs : 0 < s.numel) (hsrc : src.view.WordExact) (hdst : b.view.WordExact) (ht : (DmaTarget.here b : DmaTarget nD τ sig (.scVector (cV L) (jV L)) .vmem s e).Typed sp (.dma sem))
    (q : PosShare TreeShare) (f : Buf (Elt F) (src.view.loc (V d (cV L) (jV L)))) (Y : s.Idx → Elt F e) (k : PUnit → TProg F L α) (Q : α → sProp 𝕄) :
    iprop((src.view.loc (V d (cV L) (jV L)) ↦[src.view.set]{q} f) ∗ holds d L b Y ∗ semVal (V d (cV L) (jV L), .dma sem) 0)
      ⊢ iprop((flying d L sem b (iprop(holds d L b (src.view.read (Elt F) f) ∗ (src.view.loc (V d (cV L) (jV L)) ↦[src.view.set]{q} f)))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.enqueueDma src (.here b) (.dma sem) hsrc hdst ht) k) Q) := by
  rw [holds_view, holds_view]
  iintro ⟨Hx, ⟨%g, -, Hb⟩, Hv⟩ Hk
  iapply (Transfers.wp_dmaLocal countersEmb 𝒱₀ (V d (cV L) (jV L)) none (dst := b) (default : HIx 1) b.view.dmaCredit rfl (View.dmaCredit_pos _ hs) subset_rfl) $$ [Hx Hb Hv]
  · isplitl [Hx]; · iexact Hx
    isplitl [Hb]; · iexact Hb
    iexact Hv
  iintro Hf
  iapply Hk
  iapply (Transfers.Flight_mono countersEmb (V d (cV L) (jV L)) ?h) $$ Hf
  case h =>
    iintro ⟨Hb, Hx⟩
    isplitr [Hx]; swap; · iexact Hx
    iexists _
    isplitr; swap; · iexact Hb
    ipureintro
    exact View.read_write_univ _ _

/-- A store of the block `b` over `dst`, whose elements then are `G`'s. -/
theorem wp_put {sp : Space} {s : Shape} {e : EltTy} {α : Type} (sem : DmaSem sig) (b : Memref sig .scVector .vmem s e) (dst : Memref sig .scVector sp s e)
    (hs : 0 < s.numel) (hsrc : b.view.WordExact) (hdst : dst.view.WordExact) (ht : (DmaTarget.here dst : DmaTarget nD τ sig (.scVector (cV L) (jV L)) sp s e).Typed .vmem (.dma sem))
    (f G : Buf (Elt F) (dst.view.loc (V d (cV L) (jV L)))) (Z : s.Idx → Elt F e) (hG : dst.view.read (Elt F) G = Z) (k : PUnit → TProg F L α) (Q : α → sProp 𝕄) :
    iprop(holds d L b Z ∗ (dst.view.loc (V d (cV L) (jV L)) ↦[dst.view.set]{fullShare} f) ∗ semVal (V d (cV L) (jV L), .dma sem) 0)
      ⊢ iprop((flying d L sem dst (iprop((dst.view.loc (V d (cV L) (jV L)) ↦[dst.view.set]{fullShare} G) ∗ holds d L b Z))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.enqueueDma b (.here dst) (.dma sem) hsrc hdst ht) k) Q) := by
  rw [holds_view]
  iintro ⟨⟨%g, %hg, Hb⟩, Ho, Hv⟩ Hk
  iapply (Transfers.wp_dmaLocal countersEmb 𝒱₀ (V d (cV L) (jV L)) none (dst := dst) (default : HIx 1) dst.view.dmaCredit rfl (View.dmaCredit_pos _ hs) subset_rfl) $$ [Hb Ho Hv]
  · isplitl [Hb]; · iexact Hb
    isplitl [Ho]; · iexact Ho
    iexact Hv
  iintro Hf
  iapply Hk
  iapply (Transfers.Flight_mono countersEmb (V d (cV L) (jV L)) ?h) $$ Hf
  case h =>
    iintro ⟨Ho, Hb⟩
    isplitl [Ho]
    · iapply (Entails.of_eq (pointsTo_congr ?_)) $$ Ho
      intro i hi
      obtain ⟨x, -, rfl⟩ := Finset.mem_map.mp hi
      rw [View.write_emb_of_mem _ _ (Finset.mem_univ x)]
      have e1 : (ReadAs.same (Val := Elt F) (s := s) (e := e)).apply (b.view.read (Elt F) g) x = dst.view.read (Elt F) G x := by rw [hG, ← hg]
      rw [e1, View.read_apply, cast_cast, cast_eq]
    · iexists g
      isplitr; · ipureintro; exact hg
      iexact Hb

/-! ## The tile's blocks of the arrays -/

/-- The tile's number, of 32. -/
def wid (L : grid0.Coords) : ℕ := 2 * (L 1).val + (L 0).val

/-- There are 32 tiles. -/
theorem wid_lt : wid L < 32 := by
  have h0 : (L 0).val < 2 := (L 0).isLt
  have h1 : (L 1).val < 16 := (L 1).isLt
  unfold wid; omega

/-- A tile's input block lies in the array, -/
theorem xsl_inb (k : ℕ) : ∀ a, (![16 * min k 31, 2560 * wid L] : Fin 2 → ℕ) a + S16x2560.size a ≤ S1024x81920.size a := by
  have h := wid_lt L
  intro a
  match a with
  | 0 => show 16 * min k 31 + 16 ≤ 1024; omega
  | 1 => show 2560 * wid L + 2560 ≤ 81920; omega

/-- and its output block, -/
theorem osl_inb (k : ℕ) : ∀ a, (![16 * min k 31, 640 * wid L] : Fin 2 → ℕ) a + S16x640.size a ≤ S1024x20480.size a := by
  have h := wid_lt L
  intro a
  match a with
  | 0 => show 16 * min k 31 + 16 ≤ 1024; omega
  | 1 => show 640 * wid L + 640 ≤ 20480; omega

/-- and its stretch of the pool map. -/
theorem psl_inb : ∀ a, (![2560 * wid L] : Fin 1 → ℕ) a + S2560.size a ≤ S81920.size a := by
  have h := wid_lt L
  intro a
  match a with
  | 0 => show 2560 * wid L + 2560 ≤ 81920; omega

/-- Rows `16 k …` of the tile's columns of the input, of the output; and its mask words. -/
abbrev xsl (L : grid0.Coords) (k : ℕ) : Memref sig .scVector .hbm S16x2560 .f32 :=
  (xV).slice (Rect.unit (s := S1024x81920) ![16 * min k 31, 2560 * wid L] S16x2560.size (xsl_inb L k)) (fun _ => rfl)
abbrev osl (L : grid0.Coords) (k : ℕ) : Memref sig .scVector .hbm S16x640 .f32 :=
  (oV).slice (Rect.unit (s := S1024x20480) ![16 * min k 31, 640 * wid L] S16x640.size (osl_inb L k)) (fun _ => rfl)
abbrev psl (L : grid0.Coords) : Memref sig .scVector .hbm S2560 .i32 :=
  (pV).slice (Rect.unit (s := S81920) ![2560 * wid L] S2560.size (psl_inb L)) (fun _ => rfl)

/-- The offsets the program computes from the two coordinates are multiples of the tile's number. -/
theorem wid_cols (n : ℕ) : 2 * n * (L 1).val + n * (L 0).val = n * wid L := by
  unfold wid; ring

/-- Where the first fetch starts; -/
theorem at_off1 : k0_off1 L = ![16 * min 0 31, 2560 * wid L] := by
  rw [k0_off1_eq, ← wid_cols]; rfl
/-- where the pool map's does; -/
theorem at_off2 : k0_off2 L = ![2560 * wid L] := by
  rw [k0_off2_eq, ← wid_cols]
/-- where a trip's odd block is fetched; -/
theorem at_off3 (t : Fin k0_t2_loop.trips) : k0_off3 L t = ![16 * min (2 * t.val + 1) 31, 2560 * wid L] := by
  have ht : t.val < 16 := t.isLt
  rw [k0_off3_eq, ← wid_cols, show 16 * min (2 * t.val + 1) 31 = 32 * t.val + 16 by omega]
/-- where its even block is stored; -/
theorem at_off6 (t : Fin k0_t2_loop.trips) : k0_off6 L t = ![16 * min (2 * t.val) 31, 640 * wid L] := by
  have ht : t.val < 16 := t.isLt
  rw [k0_off6_eq, ← wid_cols, show 16 * min (2 * t.val) 31 = 32 * t.val by omega]
/-- where the next even block is fetched; -/
theorem at_off7 (t : Fin k0_t2_loop.trips) : k0_off7 L t = ![16 * min (2 * (t.val + 1)) 31, 2560 * wid L] := by
  rw [k0_off7_eq, ← wid_cols, show 2 * (t.val + 1) = 2 * t.val + 2 by ring]
/-- where its odd block is stored. -/
theorem at_off10 (t : Fin k0_t2_loop.trips) : k0_off10 L t = ![16 * min (2 * t.val + 1) 31, 640 * wid L] := by
  have ht : t.val < 16 := t.isLt
  rw [k0_off10_eq, ← wid_cols, show 16 * min (2 * t.val + 1) 31 = 32 * t.val + 16 by omega]

/-! ## What the tiles compute -/

/-- The output array: in the first 512 rows every column the scaled sum of its four children, in the others what was there. -/
def scOut (X : S1024x81920.Idx → F .f32) (M : S81920.Idx → BitVec 32) (O : S1024x20480.Idx → F .f32) : S1024x20480.Idx → F .f32 := fun i =>
  have h : (i 1).val < 20480 := (i 1).isLt
  if (i 0).val < 512 then
    pool1 (scale1 (M (ix1 (n0 := 81920) ⟨4 * (i 1).val, by omega⟩)) (M (ix1 (n0 := 81920) ⟨4 * (i 1).val + 1, by omega⟩))
        (M (ix1 (n0 := 81920) ⟨4 * (i 1).val + 2, by omega⟩)) (M (ix1 (n0 := 81920) ⟨4 * (i 1).val + 3, by omega⟩)))
      (X (ix2 (n0 := 1024) (n1 := 81920) (i 0) ⟨4 * (i 1).val, by omega⟩)) (X (ix2 (n0 := 1024) (n1 := 81920) (i 0) ⟨4 * (i 1).val + 1, by omega⟩))
      (X (ix2 (n0 := 1024) (n1 := 81920) (i 0) ⟨4 * (i 1).val + 2, by omega⟩)) (X (ix2 (n0 := 1024) (n1 := 81920) (i 0) ⟨4 * (i 1).val + 3, by omega⟩))
  else O i

/-- A column of the tile's input block, as a column of the input. -/
theorem xsl_at (X : S1024x81920.Idx → F .f32) (k : ℕ) (r : Fin 16) (n : ℕ) (hn : n < 2560) (r' : Fin 1024) (n' : ℕ) (hn' : n' < 81920)
    (hr : r'.val = 16 * min k 31 + r.val) (hc : n' = 2560 * wid L + n) :
    (xsl L k).view.read (Elt F) X (ix2 (n0 := 16) (n1 := 2560) r ⟨n, hn⟩) = X (ix2 (n0 := 1024) (n1 := 81920) r' ⟨n', hn'⟩) := by
  rw [View.read_apply, cast_eq]
  congr 1
  funext a
  apply Fin.ext
  match a with
  | 0 => show 16 * min k 31 + 1 * r.val = r'.val; omega
  | 1 => show 2560 * wid L + 1 * n = n'; omega

/-- A word of the tile's stretch of the pool map. -/
theorem psl_at (M : S81920.Idx → BitVec 32) (n : ℕ) (hn : n < 2560) (n' : ℕ) (hn' : n' < 81920) (hc : n' = 2560 * wid L + n) :
    (psl L).view.read (Elt F) M (ix1 (n0 := 2560) ⟨n, hn⟩) = M (ix1 (n0 := 81920) ⟨n', hn'⟩) := by
  rw [View.read_apply, cast_eq]
  congr 1
  funext a
  apply Fin.ext
  match a with
  | 0 => show 2560 * wid L + 1 * n = n'; omega

/-- The pooled block is the output array's block. -/
theorem osl_scOut (X : S1024x81920.Idx → F .f32) (M : S81920.Idx → BitVec 32) (O : S1024x20480.Idx → F .f32) (k : ℕ) :
    (osl L k).view.read (Elt F) (scOut X M O) = blockPool ((xsl L k).view.read (Elt F) X) (blockScale ((psl L).view.read (Elt F) M)) := by
  funext y
  have h0 : (y 0).val < 16 := (y 0).isLt
  have h1 : (y 1).val < 640 := (y 1).isLt
  have hw := wid_lt L
  have e0 : ((osl L k).view.emb y 0).val = 16 * min k 31 + (y 0).val := by
    show 16 * min k 31 + 1 * (y 0).val = _; omega
  have e1 : ((osl L k).view.emb y 1).val = 640 * wid L + (y 1).val := by
    show 640 * wid L + 1 * (y 1).val = _; omega
  rw [View.read_apply, cast_eq]
  generalize (osl L k).view.emb y = i at e0 e1 ⊢
  have hi : (i 1).val < 20480 := (i 1).isLt
  have hp : ∀ j (hj : j < 4), (psl L).view.read (Elt F) M (ix1 (n0 := 2560) ⟨4 * (y 1).val + j, by omega⟩) = M (ix1 (n0 := 81920) ⟨4 * (i 1).val + j, by omega⟩) :=
    fun j hj => psl_at L M _ _ _ _ (by rw [e1]; ring)
  have hx : ∀ j (hj : j < 4), (xsl L k).view.read (Elt F) X (ix2 (n0 := 16) (n1 := 2560) (y 0) ⟨4 * (y 1).val + j, by omega⟩)
      = X (ix2 (n0 := 1024) (n1 := 81920) (i 0) ⟨4 * (i 1).val + j, by omega⟩) :=
    fun j hj => xsl_at L X k _ _ _ _ _ _ e0 (by rw [e1]; ring)
  have l : scOut X M O i = pool1 (scale1 (M (ix1 (n0 := 81920) ⟨4 * (i 1).val + 0, by omega⟩)) (M (ix1 (n0 := 81920) ⟨4 * (i 1).val + 1, by omega⟩))
        (M (ix1 (n0 := 81920) ⟨4 * (i 1).val + 2, by omega⟩)) (M (ix1 (n0 := 81920) ⟨4 * (i 1).val + 3, by omega⟩)))
      (X (ix2 (n0 := 1024) (n1 := 81920) (i 0) ⟨4 * (i 1).val + 0, by omega⟩)) (X (ix2 (n0 := 1024) (n1 := 81920) (i 0) ⟨4 * (i 1).val + 1, by omega⟩))
      (X (ix2 (n0 := 1024) (n1 := 81920) (i 0) ⟨4 * (i 1).val + 2, by omega⟩)) (X (ix2 (n0 := 1024) (n1 := 81920) (i 0) ⟨4 * (i 1).val + 3, by omega⟩)) :=
    if_pos (show (i 0).val < 512 by omega)
  rw [l, ← hp 0 (by omega), ← hp 1 (by omega), ← hp 2 (by omega), ← hp 3 (by omega), ← hx 0 (by omega), ← hx 1 (by omega), ← hx 2 (by omega), ← hx 3 (by omega)]
  rfl

/-! ## Strips of the output -/

/-- Rows `a …< b` of tile `w`'s columns of the output. -/
def strip (w a b : ℕ) : Finset S1024x20480.Idx :=
  Finset.univ.filter fun i => (a ≤ (i 0).val ∧ (i 0).val < b) ∧ 640 * w ≤ (i 1).val ∧ (i 1).val < 640 * w + 640

/-- What is in a strip. -/
theorem mem_strip {w a b : ℕ} {i : S1024x20480.Idx} : i ∈ strip w a b ↔ (a ≤ (i 0).val ∧ (i 0).val < b) ∧ 640 * w ≤ (i 1).val ∧ (i 1).val < 640 * w + 640 := by
  simp [strip]

/-- Two strips, one above the other, are one strip; -/
theorem strip_union {w a b c : ℕ} (h1 : a ≤ b) (h2 : b ≤ c) : strip w a c = strip w a b ∪ strip w b c := by
  ext i; simp only [Finset.mem_union, mem_strip]; omega

/-- they share no element; -/
theorem strip_disjoint {w a b c : ℕ} : Disjoint (strip w a b) (strip w b c) := by
  rw [Finset.disjoint_left]; intro i; simp only [mem_strip]; omega

/-- a strip of no rows is empty. -/
theorem strip_empty {w a : ℕ} : strip w a a = ∅ := by
  ext i; simp only [mem_strip, Finset.notMem_empty, iff_false]; omega

/-- An output block is a strip of sixteen rows. -/
theorem osl_set (k : ℕ) (hk : k < 32) : (osl L k).view.set = strip (wid L) (16 * k) (16 * k + 16) := by
  rw [show (osl L k).view.set = (Rect.unit (s := S1024x20480) ![16 * min k 31, 640 * wid L] S16x640.size (osl_inb L k)).set from View.set_slice_whole _ _]
  ext i
  rw [Rect.mem_set_unit, mem_strip]
  constructor
  · intro h
    have h0 := h 0
    have h1 := h 1
    have h0' : 16 * min k 31 ≤ (i 0).val ∧ (i 0).val < 16 * min k 31 + 16 := h0
    have h1' : 640 * wid L ≤ (i 1).val ∧ (i 1).val < 640 * wid L + 640 := h1
    omega
  · intro h a
    match a with
    | 0 => show 16 * min k 31 ≤ (i 0).val ∧ (i 0).val < 16 * min k 31 + 16; omega
    | 1 => exact h.2

end Cert.KernelIdeal.Tile
-- ==== Proof.IdealTile.lean ====
/-
  One trip of the vector subcore's double-buffered loop: two blocks fetched, pooled and stored, with
  the transfers that are under way from one trip to the next.
-/
module

public import proofs.«01_k».proof.Proof.IdealDma

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1024x81920 EltTy.f32)
local notation "pV" => (Memref.whole Cert.KernelIdeal.main_v1_scv : Memref Cert.KernelIdeal.sig Kind.scVector Space.hbm Cert.KernelIdeal.S81920 EltTy.i32)
local notation "oV" => (Memref.whole Cert.KernelIdeal.main_v2_scv : Memref Cert.KernelIdeal.sig Kind.scVector Space.hbm Cert.KernelIdeal.S1024x20480 EltTy.f32)

local notation "mV" => (Memref.whole Cert.KernelIdeal.cc0_scratch0 : Memref Cert.KernelIdeal.sig Kind.scVector Space.vmem Cert.KernelIdeal.S2560 EltTy.i32)
local notation "rV" => (Memref.whole Cert.KernelIdeal.cc0_scratch1 : Memref Cert.KernelIdeal.sig Kind.scVector Space.vmem Cert.KernelIdeal.S640 EltTy.f32)
local notation "b0" => (Memref.whole Cert.KernelIdeal.cc0_scratch2 : Memref Cert.KernelIdeal.sig Kind.scVector Space.vmem Cert.KernelIdeal.S16x2560 EltTy.f32)
local notation "b1" => (Memref.whole Cert.KernelIdeal.cc0_scratch3 : Memref Cert.KernelIdeal.sig Kind.scVector Space.vmem Cert.KernelIdeal.S16x2560 EltTy.f32)
local notation "o0" => (Memref.whole Cert.KernelIdeal.cc0_scratch4 : Memref Cert.KernelIdeal.sig Kind.scVector Space.vmem Cert.KernelIdeal.S16x640 EltTy.f32)
local notation "o1" => (Memref.whole Cert.KernelIdeal.cc0_scratch5 : Memref Cert.KernelIdeal.sig Kind.scVector Space.vmem Cert.KernelIdeal.S16x640 EltTy.f32)

variable [FloatOps F] (d : Dev nD) (L : grid0.Coords)

abbrev xLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

variable (qa qb : PosShare TreeShare) (X : Buf (Elt F) (xLoc d)) (M : Buf (Elt F) (pLoc d)) (O₀ : Buf (Elt F) (oLoc d))

/-- The scales of the tile's columns. -/
abbrev scales (M : Buf (Elt F) (pLoc d)) : Vec F S640 .f32 := blockScale ((psl L).view.read (Elt F) M)
/-- The array the tiles compute. -/
abbrev goal : Buf (Elt F) (oLoc d) := scOut X M O₀

/-- Block `k` of the input on its way into the first block of tile memory, and the rest of its share of the input. -/
def fetching (k : ℕ) : sProp 𝕄 :=
  iprop(flying d L cc0_scratch6.sem b0 (iprop(holds d L b0 ((xsl L k).view.read (Elt F) X) ∗ (xLoc d ↦[(xsl L k).view.set]{qa} X)))
    ∗ (xLoc d ↦[Finset.univ \ (xsl L k).view.set]{qa} X))

/-- One output block of tile memory: free before the first trip, and on its way to rows `a …< a + 16` of the output before the later ones. -/
def leaving (sem : DmaSem sig) (b : Memref sig .scVector .vmem S16x640 .f32) (a : ℕ) : ℕ → sProp 𝕄
  | 0 => iprop((∃ Y, holds d L b Y) ∗ semVal (V d (cV L) (jV L), .dma sem) 0)
  | _ + 1 => flying d L sem b (iprop((oLoc d ↦[strip (wid L) a (a + 16)]{fullShare} goal d X M O₀) ∗ ∃ Y, holds d L b Y))

/-- The rows it brings back. -/
def left (a : ℕ) : ℕ → sProp 𝕄
  | 0 => iprop(emp)
  | _ + 1 => (oLoc d ↦[strip (wid L) a (a + 16)]{fullShare} goal d X M O₀)

/-- What has been stored before trip `p`, the last two blocks still under way. -/
def stored (p : ℕ) : sProp 𝕄 :=
  iprop(leaving d L X M O₀ cc0_scratch8.sem o0 (32 * (p - 1)) p ∗ leaving d L X M O₀ cc0_scratch9.sem o1 (32 * (p - 1) + 16) p
    ∗ (oLoc d ↦[strip (wid L) 0 (32 * (p - 1))]{fullShare} goal d X M O₀))

/-- What the tile holds before trip `p`. -/
def before (O : CellTallies nD τ sig (HIx 1)) (W : Waits sig (HIx 1)) (p : ℕ) : sProp 𝕄 :=
  iprop(owed d L O W ∗ holds d L rV (scales d L M) ∗ fetching d L qa X (2 * p)
    ∗ (xLoc d ↦{qb} X) ∗ (∃ Y, holds d L b1 Y) ∗ semVal (V d (cV L) (jV L), .dma cc0_scratch7.sem) 0
    ∗ (oLoc d ↦[strip (wid L) (32 * p) 512]{fullShare} O₀) ∗ stored d L X M O₀ p)

/-- A block of the input and the rest of it are the whole. -/
theorem x_join (I : Finset S1024x81920.Idx) (q : PosShare TreeShare) :
    iprop((xLoc d ↦[I]{q} X) ∗ (xLoc d ↦[Finset.univ \ I]{q} X)) ⊢ (xLoc d ↦{q} X : sProp 𝕄) :=
  (pointsTo_split_subset (Finset.subset_univ I)).2

/-- The fetch of block `k`, wherever the program says it is. -/
theorem wp_fetchX {α : Type} (sem : DmaSem sig) (b : Memref sig .scVector .vmem S16x2560 .f32) (k : ℕ) (off : Fin 2 → ℕ) (inb)
    (e : off = ![16 * min k 31, 2560 * wid L])
    (hsrc) (hdst : b.view.WordExact) (ht : (DmaTarget.here b : DmaTarget nD τ sig (.scVector (cV L) (jV L)) .vmem S16x2560 .f32).Typed .hbm (.dma sem))
    (q : PosShare TreeShare) (Y : S16x2560.Idx → Elt F .f32) (kk : PUnit → TProg F L α) (Q : α → sProp 𝕄) :
    iprop((xLoc d ↦{q} X) ∗ holds d L b Y ∗ semVal (V d (cV L) (jV L), .dma sem) 0)
      ⊢ iprop((iprop(flying d L sem b (iprop(holds d L b ((xsl L k).view.read (Elt F) X) ∗ (xLoc d ↦[(xsl L k).view.set]{q} X)))
            ∗ (xLoc d ↦[Finset.univ \ (xsl L k).view.set]{q} X))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (.op (.enqueueDma ((xV).slice (Rect.unit (s := S1024x81920) off S16x2560.size inb) (fun _ => rfl)) (.here b) (.dma sem) hsrc hdst ht) kk) Q) := by
  subst e
  iintro ⟨Hx, Hb, Hv⟩ Hk
  ihave Hs := (pointsTo_split_subset (q := q) (f := X) (S := Finset.univ) (Finset.subset_univ (xsl L k).view.set)).1 $$ Hx
  icases Hs with ⟨Hs, Hr⟩
  iapply (wp_fetch d L sem b (xsl L k) (show 0 < S16x2560.numel by decide) hsrc hdst ht q X Y kk Q) $$ [Hs Hb Hv]
  · isplitl [Hs]; · iexact Hs
    isplitl [Hb]; · iexact Hb
    iexact Hv
  iintro Hf
  iapply Hk
  isplitl [Hf]; · iexact Hf
  iexact Hr

/-- The store of pooled block `k`, wherever the program says it goes. -/
theorem wp_putO {α : Type} (sem : DmaSem sig) (b : Memref sig .scVector .vmem S16x640 .f32) (k : ℕ) (hk : k < 32) (off : Fin 2 → ℕ) (inb)
    (e : off = ![16 * min k 31, 640 * wid L]) (hcr : (osl L k).view.dmaCredit = b.view.dmaCredit)
    (hsrc : b.view.WordExact) (hdst)
    (ht : (DmaTarget.here ((oV).slice (Rect.unit (s := S1024x20480) off S16x640.size inb) (fun _ => rfl)) : DmaTarget nD τ sig (.scVector (cV L) (jV L)) .hbm S16x640 .f32).Typed .vmem (.dma sem))
    (kk : PUnit → TProg F L α) (Q : α → sProp 𝕄) :
    iprop(holds d L b (blockPool ((xsl L k).view.read (Elt F) X) (scales d L M)) ∗ (oLoc d ↦[strip (wid L) (16 * k) (16 * k + 16)]{fullShare} O₀)
        ∗ semVal (V d (cV L) (jV L), .dma sem) 0)
      ⊢ iprop((flying d L sem b (iprop((oLoc d ↦[strip (wid L) (16 * k) (16 * k + 16)]{fullShare} goal d X M O₀) ∗ ∃ Y, holds d L b Y))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (.op (.enqueueDma b (.here ((oV).slice (Rect.unit (s := S1024x20480) off S16x640.size inb) (fun _ => rfl))) (.dma sem) hsrc hdst ht) kk) Q) := by
  subst e
  rw [← osl_set L k hk]
  iintro ⟨Hb, Ho, Hv⟩ Hk
  iapply (wp_put d L sem b (osl L k) (show 0 < S16x640.numel by decide) hsrc hdst ht O₀ (goal d X M O₀) _ (osl_scOut L X M O₀ k) kk Q) $$ [Hb Ho Hv]
  · isplitl [Hb]; · iexact Hb
    isplitl [Ho]; · iexact Ho
    iexact Hv
  iintro Hf
  iapply Hk
  unfold flying
  rw [← hcr]
  iapply (Transfers.Flight_mono countersEmb (V d (cV L) (jV L)) ?h) $$ Hf
  case h =>
    iintro ⟨Ho, Hb⟩
    isplitl [Ho]; · iexact Ho
    iexists _; iexact Hb

/-- Before an output block is filled again its last store is waited for, if there was one. -/
theorem wp_reclaim {α β : Type} (c : Prop) [Decidable c] (p : ℕ) (hc : c ↔ p ≠ 0) (sem : DmaSem sig) (b : Memref sig .scVector .vmem S16x640 .f32) (a : ℕ)
    (dst : c → Memref sig .scVector .hbm S16x640 .f32) (hcr : ∀ h, (dst h).view.dmaCredit = b.view.dmaCredit) (hsrc : b.view.WordExact) (hdst : ∀ h, (dst h).view.WordExact)
    (O : CellTallies nD τ sig (HIx 1)) (W : Waits sig (HIx 1)) (K : TProg F L β) (rest : β → TProg F L α) (Q : α → sProp 𝕄) :
    iprop(leaving d L X M O₀ sem b a p ∗ owed d L O W ∗ Transfers.MayWaits (V d (cV L) (jV L)) (default : HIx 1) O)
      ⊢ iprop((iprop((∃ Y, holds d L b Y) ∗ left d L X M O₀ a p ∗ semVal (V d (cV L) (jV L), .dma sem) 0 ∗ owed d L O W)
          -∗ wp frame (wpE (defs₀ (F := F)) 𝒱₀ (V d (cV L) (jV L)) none) Set.univ (K >>= rest) Q)
        -∗ wp frame (wpE (defs₀ (F := F)) 𝒱₀ (V d (cV L) (jV L)) none) Set.univ
          ((if h : c then .op (.waitDma2 sem b (dst h) hsrc (hdst h)) (fun _ => K) else K) >>= rest) Q) := by
  cases p with
  | zero =>
    rw [dif_neg (fun h => (hc.mp h) rfl)]
    unfold leaving left
    iintro ⟨⟨Hb, Hs⟩, HO, -⟩ Hk
    iapply Hk
    isplitl [Hb]; · iexact Hb
    isplitr; · iempintro
    isplitl [Hs] <;> iassumption
  | succ p =>
    rw [dif_pos (hc.mpr (Nat.succ_ne_zero p))]
    unfold leaving left
    simp only [Prog.bind_op]
    iintro ⟨Hf, HO, Hmw⟩ Hk
    iapply (wp_land d L sem b _ _ (hcr _)) $$ [Hf HO Hmw]
    · isplitl [Hf]; · iexact Hf
      isplitl [HO] <;> iassumption
    iintro ⟨⟨Ho, Hb⟩, Hs, HO⟩
    iapply Hk
    isplitl [Hb]; · iexact Hb
    isplitl [Ho]; · iexact Ho
    isplitl [Hs] <;> iassumption

/-- What is stored grows by the rows brought back. -/
theorem left_join (p : ℕ) :
    iprop(left d L X M O₀ (32 * (p - 1)) p ∗ left d L X M O₀ (32 * (p - 1) + 16) p ∗ (oLoc d ↦[strip (wid L) 0 (32 * (p - 1))]{fullShare} goal d X M O₀))
      ⊢ (oLoc d ↦[strip (wid L) 0 (32 * p)]{fullShare} goal d X M O₀ : sProp 𝕄) := by
  cases p with
  | zero => unfold left; iintro ⟨-, -, H⟩; iexact H
  | succ p =>
    unfold left
    rw [show 32 * (p + 1 - 1) = 32 * p by omega,
      strip_union (w := wid L) (a := 0) (b := 32 * p + 16) (c := 32 * (p + 1)) (by omega) (by omega),
      strip_union (w := wid L) (a := 0) (b := 32 * p) (c := 32 * p + 16) (by omega) (by omega),
      show 32 * (p + 1) = 32 * p + 16 + 16 by ring]
    iintro ⟨H1, H2, H0⟩
    ihave H01 := (pointsTo_union (f := goal d X M O₀) (q := fullShare) (ℓ := oLoc d) strip_disjoint).2 $$ [H0 H1]; · isplitl [H0] <;> iassumption
    iapply (pointsTo_union (f := goal d X M O₀) (q := fullShare) (ℓ := oLoc d) ?h).2
    case h => rw [← strip_union (by omega) (by omega)]; exact strip_disjoint
    isplitl [H01] <;> iassumption

/-- The next 16 rows of what is left. -/
theorem strip_next (p : ℕ) (hp : p + 16 ≤ 512) :
    (oLoc d ↦[strip (wid L) p 512]{fullShare} O₀ : sProp 𝕄)
      ⊢ iprop((oLoc d ↦[strip (wid L) p (p + 16)]{fullShare} O₀) ∗ (oLoc d ↦[strip (wid L) (p + 16) 512]{fullShare} O₀)) := by
  rw [strip_union (w := wid L) (a := p) (b := p + 16) (c := 512) (by omega) hp]
  exact (pointsTo_union strip_disjoint).1

/-- The first store is waited for in every trip but the first, -/
theorem cond1_zero (t : Fin k0_t2_loop.trips) : k0_cond1 t = 1#1 ↔ t.val ≠ 0 := by
  revert t; decide +kernel
/-- and so is the second. -/
theorem cond2_zero (t : Fin k0_t2_loop.trips) : k0_cond2 t = 1#1 ↔ t.val ≠ 0 := by
  revert t; decide +kernel

set_option maxHeartbeats 4000000 in
/-- One trip. -/
theorem wp_trip (O : CellTallies nD τ sig (HIx 1)) (W : Waits sig (HIx 1)) (t : Fin k0_t2_loop.trips) (a : BitVec 32) :
    iprop(Transfers.MayWaits (V d (cV L) (jV L)) (default : HIx 1) O ∗ before d L qa qb X M O₀ O W t.val)
      ⊢ wp frame (wpE (defs₀ (F := F)) 𝒱₀ (V d (cV L) (jV L)) none) Set.univ
          (k0_t2_body L xV (Memref.isWhole_whole _) pV (Memref.isWhole_whole _) oV (Memref.isWhole_whole _) mV (Memref.isWhole_whole _) rV (Memref.isWhole_whole _) b0 (Memref.isWhole_whole _) b1 (Memref.isWhole_whole _) o0 (Memref.isWhole_whole _) o1 (Memref.isWhole_whole _) cc0_scratch6 cc0_scratch7 cc0_scratch8 cc0_scratch9 cc0_scoped0 lanes k0_pay144 k0_pay145 k0_pay146 k0_pay147 k0_pay148 k0_pay149 k0_pay150 k0_pay151 k0_pay152 k0_pay153 k0_pay154 k0_pay155 k0_pay156 k0_pay157 k0_pay158 k0_pay159 k0_pay160 t a)
          fun _ => before d L qa qb X M O₀ O W (t.val + 1) := by
  unfold k0_t2_body
  simp only [k0_part12_eq_skeleton]; unfold k0_part12_skel
  simp only [Prog.lift, Prog.bind_op, Prog.bind_ret, Prog.pure_eq_ret, Prog.bind_assoc]
  have ht : t.val < 16 := t.isLt
  unfold before fetching stored
  iintro ⟨#Hmw, HO, Hr, ⟨Hf0, Hxr⟩, Hxb, ⟨%Y1, Hb1⟩, Hs1, Ho, Hl0, Hl1, Hdone⟩
  iapply (wp_fetchX d L X cc0_scratch7.sem b1 (2 * t.val + 1) _ _ (at_off3 L t) _ _ _ qb Y1) $$ [Hxb Hb1 Hs1]
  · isplitl [Hxb]; · iexact Hxb
    isplitl [Hb1]; · iexact Hb1
    iexact Hs1
  iintro ⟨Hf1, Hxbr⟩
  iapply (wp_land d L cc0_scratch6.sem b0 _ _ rfl) $$ [Hf0 HO]
  · isplitl [Hf0]; · iexact Hf0
    isplitl [HO]; · iexact HO
    iexact Hmw
  iintro ⟨⟨Hb0, Hxs⟩, Hs0, HO⟩
  ihave Hxa := (x_join d X _ qa) $$ [Hxs Hxr]; · isplitl [Hxs] <;> iassumption
  iapply (wp_reclaim d L X M O₀ (k0_cond1 t = 1#1) t.val (cond1_zero t) cc0_scratch8.sem o0 (32 * (t.val - 1)) _ (fun _ => rfl)) $$ [Hl0 HO]
  · isplitl [Hl0]; · iexact Hl0
    isplitl [HO]; · iexact HO
    iexact Hmw
  iintro ⟨⟨%Z0, Ho0⟩, Hd0, Hs2, HO⟩
  simp only [Prog.bind_op, Prog.bind_ret, Prog.bind_assoc]
  iapply (wp_t3 d L) $$ [Hr Hb0 Ho0]
  · isplitl [Hr]; · iexact Hr
    isplitl [Hb0] <;> iassumption
  iintro %v0 ⟨Hr, Hb0, Ho0⟩
  ihave Hoo := (strip_next d L O₀ (32 * t.val) (by omega)) $$ Ho
  icases Hoo with ⟨Hn0, Ho⟩
  iapply (wp_putO d L X M O₀ cc0_scratch8.sem o0 (2 * t.val) (by omega) _ _ (at_off6 L t) rfl) $$ [Ho0 Hn0 Hs2]
  · isplitl [Ho0]; · iexact Ho0
    isplitl [Hn0]; · iapply (Entails.of_eq (by rw [show 16 * (2 * t.val) = 32 * t.val by ring])) $$ Hn0
    iexact Hs2
  iintro Hl0
  iapply (wp_fetchX d L X cc0_scratch6.sem b0 (2 * (t.val + 1)) _ _ (at_off7 L t) _ _ _ qa) $$ [Hxa Hb0 Hs0]
  · isplitl [Hxa]; · iexact Hxa
    isplitl [Hb0]; · iexact Hb0
    iexact Hs0
  iintro ⟨Hf0, Hxr⟩
  iapply (wp_land d L cc0_scratch7.sem b1 _ _ rfl) $$ [Hf1 HO]
  · isplitl [Hf1]; · iexact Hf1
    isplitl [HO]; · iexact HO
    iexact Hmw
  iintro ⟨⟨Hb1, Hxs⟩, Hs1, HO⟩
  ihave Hxb := (x_join d X _ qb) $$ [Hxs Hxbr]; · isplitl [Hxs] <;> iassumption
  iapply (wp_reclaim d L X M O₀ (k0_cond2 t = 1#1) t.val (cond2_zero t) cc0_scratch9.sem o1 (32 * (t.val - 1) + 16) _ (fun _ => rfl)) $$ [Hl1 HO]
  · isplitl [Hl1]; · iexact Hl1
    isplitl [HO]; · iexact HO
    iexact Hmw
  iintro ⟨⟨%Z1, Ho1⟩, Hd1, Hs3, HO⟩
  simp only [Prog.bind_op, Prog.bind_ret, Prog.bind_assoc]
  iapply (wp_t4 d L) $$ [Hr Hb1 Ho1]
  · isplitl [Hr]; · iexact Hr
    isplitl [Hb1] <;> iassumption
  iintro %v1 ⟨Hr, Hb1, Ho1⟩
  ihave Hoo := (strip_next d L O₀ (32 * t.val + 16) (by omega)) $$ Ho
  icases Hoo with ⟨Hn1, Ho⟩
  iapply (wp_putO d L X M O₀ cc0_scratch9.sem o1 (2 * t.val + 1) (by omega) _ _ (at_off10 L t) rfl) $$ [Ho1 Hn1 Hs3]
  · isplitl [Ho1]; · iexact Ho1
    isplitl [Hn1]; · iapply (Entails.of_eq (by rw [show 16 * (2 * t.val + 1) = 32 * t.val + 16 by ring])) $$ Hn1
    iexact Hs3
  iintro Hl1
  sl_step
  isplitl [HO]; · iexact HO
  isplitl [Hr]; · iexact Hr
  isplitl [Hf0 Hxr]; · isplitl [Hf0] <;> iassumption
  isplitl [Hxb]; · iexact Hxb
  isplitl [Hb1]; · iexists _; iexact Hb1
  isplitl [Hs1]; · iexact Hs1
  isplitl [Ho]; · iapply (Entails.of_eq (by rw [show 32 * (t.val + 1) = 32 * t.val + 16 + 16 by ring])) $$ Ho
  ihave Hdone := (left_join d L X M O₀ t.val) $$ [Hd0 Hd1 Hdone]
  · isplitl [Hd0]; · iexact Hd0
    isplitl [Hd1] <;> iassumption
  rw [show t.val + 1 - 1 = t.val by omega]
  unfold leaving
  isplitl [Hl0]; · iapply (Entails.of_eq (by rw [show 16 * (2 * t.val) = 32 * t.val by ring])) $$ Hl0
  isplitl [Hl1]; · iapply (Entails.of_eq (by rw [show 16 * (2 * t.val + 1) = 32 * t.val + 16 by ring])) $$ Hl1
  iexact Hdone

end Cert.KernelIdeal.Tile
-- ==== Proof.IdealBody.lean ====
/-
  The whole program of one vector subcore: its columns of the pooled array, from shares of the input and of the mask.
-/
module

public import proofs.«01_k».proof.Proof.IdealTile

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1024x81920 EltTy.f32)
local notation "pV" => (Memref.whole Cert.KernelIdeal.main_v1_scv : Memref Cert.KernelIdeal.sig Kind.scVector Space.hbm Cert.KernelIdeal.S81920 EltTy.i32)
local notation "oV" => (Memref.whole Cert.KernelIdeal.main_v2_scv : Memref Cert.KernelIdeal.sig Kind.scVector Space.hbm Cert.KernelIdeal.S1024x20480 EltTy.f32)

local notation "mV" => (Memref.whole Cert.KernelIdeal.cc0_scratch0 : Memref Cert.KernelIdeal.sig Kind.scVector Space.vmem Cert.KernelIdeal.S2560 EltTy.i32)
local notation "rV" => (Memref.whole Cert.KernelIdeal.cc0_scratch1 : Memref Cert.KernelIdeal.sig Kind.scVector Space.vmem Cert.KernelIdeal.S640 EltTy.f32)
local notation "b0" => (Memref.whole Cert.KernelIdeal.cc0_scratch2 : Memref Cert.KernelIdeal.sig Kind.scVector Space.vmem Cert.KernelIdeal.S16x2560 EltTy.f32)
local notation "b1" => (Memref.whole Cert.KernelIdeal.cc0_scratch3 : Memref Cert.KernelIdeal.sig Kind.scVector Space.vmem Cert.KernelIdeal.S16x2560 EltTy.f32)
local notation "o0" => (Memref.whole Cert.KernelIdeal.cc0_scratch4 : Memref Cert.KernelIdeal.sig Kind.scVector Space.vmem Cert.KernelIdeal.S16x640 EltTy.f32)
local notation "o1" => (Memref.whole Cert.KernelIdeal.cc0_scratch5 : Memref Cert.KernelIdeal.sig Kind.scVector Space.vmem Cert.KernelIdeal.S16x640 EltTy.f32)

abbrev ΛP : Labels := Pipeline.Sig Λ₀ (Fin 1) fun p => (pcfgs (F := F) p).Adm
abbrev K : SparseCore.Cfg τ sig (ΛP (F := F)) 1 := sc (F := F)

section Own

variable (d : Dev nD) (L : grid0.Coords)

/-- The buffers of tile memory the program names, and the semaphores. -/
def refs : Finset (Ref sig .scVector) := {cc0_scratch0, cc0_scratch1, cc0_scratch2, cc0_scratch3, cc0_scratch4, cc0_scratch5}
def sems : Finset (SemLoc sig) := {.dma cc0_scratch6.sem, .dma cc0_scratch7.sem, .dma cc0_scratch8.sem, .dma cc0_scratch9.sem, .dma cc0_scoped0.sem}

def refEmb : Ref sig .scVector ↪ DevRef τ sig := ⟨fun r => (Proc.scVector (cV L) (jV L)).devRef r, fun _ _ e => Proc.devRef_injective _ e⟩
def semEmb : SemLoc sig ↪ GSem nD τ sig := ⟨fun s => (V d (cV L) (jV L), s), fun _ _ e => (Prod.mk.inj e).2⟩

/-- The scratch buffers it names are its own, -/
theorem refs_own : refs.map (refEmb L) ⊆ ownRefs (τ := τ) (sig := sig) (.scVector (cV L) (jV L)) := by
  intro b hb
  obtain ⟨r, hr, rfl⟩ := Finset.mem_map.mp hb
  have key : ∀ r ∈ refs, r = cc0_scratch0 ∨ r = cc0_scratch1 ∨ r = cc0_scratch2 ∨ r = cc0_scratch3 ∨ r = cc0_scratch4 ∨ r = cc0_scratch5 := by decide
  rcases key r hr with rfl | rfl | rfl | rfl | rfl | rfl <;> exact SparseCore.Cfg.mem_ownRefs_of_owner (p := Proc.scVector (cV L) (jV L)) rfl

/-- and so are the semaphores. -/
theorem sems_own : sems.map (semEmb d L) ⊆ ownCells (V d (cV L) (jV L)) := by
  intro g hg
  obtain ⟨s, hs, rfl⟩ := Finset.mem_map.mp hg
  have key : ∀ s ∈ sems, (s : SemLoc sig).isScoped .scVector = true := by decide
  exact mem_ownCells.mpr ⟨rfl, key s hs⟩

/-- The named buffers are the subcore's, and the rest. -/
theorem ownBufs_V : (ownBufs (V d (cV L) (jV L)) : sProp 𝕄)
    = iprop(((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)
        ∗ (∃ f, (V d (cV L) (jV L)).loc cc0_scratch4 ↦{fullShare} f) ∗ (∃ f, (V d (cV L) (jV L)).loc cc0_scratch5 ↦{fullShare} f))
      ∗ bigSep (ownRefs (τ := τ) (sig := sig) (.scVector (cV L) (jV L)) \ refs.map (refEmb L)) fun b => iprop(∃ f, ((d, b) : Loc nD τ sig) ↦{fullShare} f)) := by
  unfold SparseCore.Cfg.ownBufs
  refine (SparseCore.bigSep_sdiff_split' (refs_own L)).trans ?_
  refine congrArg (fun A : sProp 𝕄 => iprop(A ∗ _)) ?_
  rw [Idealize.SL.BI.bigSep_map]
  unfold refs
  rw [SparseCore.bigSep_insert' (by decide), SparseCore.bigSep_insert' (by decide), SparseCore.bigSep_insert' (by decide), SparseCore.bigSep_insert' (by decide),
    SparseCore.bigSep_insert' (by decide), bigSep_singleton]
  rfl

/-- The named semaphores are the subcore's, and the rest. -/
theorem ownSems0_V : (ownSems0 (V d (cV L) (jV L)) : sProp 𝕄)
    = iprop((semVal (V d (cV L) (jV L), .dma cc0_scratch6.sem) 0 ∗ semVal (V d (cV L) (jV L), .dma cc0_scratch7.sem) 0
        ∗ semVal (V d (cV L) (jV L), .dma cc0_scratch8.sem) 0 ∗ semVal (V d (cV L) (jV L), .dma cc0_scratch9.sem) 0
        ∗ semVal (V d (cV L) (jV L), .dma cc0_scoped0.sem) 0)
      ∗ bigSep (ownCells (V d (cV L) (jV L)) \ sems.map (semEmb d L)) fun g => semVal g 0) := by
  unfold SparseCore.Cfg.ownSems0
  refine (SparseCore.bigSep_sdiff_split' (sems_own d L)).trans ?_
  refine congrArg (fun A : sProp 𝕄 => iprop(A ∗ _)) ?_
  rw [Idealize.SL.BI.bigSep_map]
  unfold sems
  rw [SparseCore.bigSep_insert' (by decide), SparseCore.bigSep_insert' (by decide), SparseCore.bigSep_insert' (by decide), SparseCore.bigSep_insert' (by decide),
    bigSep_singleton]
  rfl

/-- A buffer owned whole is a block held, -/
theorem holds_of_own [FloatOps F] {s : Shape} {e : EltTy} (b : Memref sig .scVector .vmem s e) (hb : b.view.set = Finset.univ) :
    (iprop(∃ f, b.view.loc (V d (cV L) (jV L)) ↦{fullShare} f) : sProp 𝕄) ⊢ iprop(∃ Y, holds d L b Y) := by
  iintro ⟨%f, H⟩
  iexists b.view.read (Elt F) f
  rw [holds_view, hb]
  iexists f
  isplitr; · ipureintro; rfl
  iexact H

/-- and back. -/
theorem own_of_holds [FloatOps F] {s : Shape} {e : EltTy} (b : Memref sig .scVector .vmem s e) (hb : b.view.set = Finset.univ) (Y : s.Idx → Elt F e) :
    (holds d L b Y : sProp 𝕄) ⊢ iprop(∃ f, b.view.loc (V d (cV L) (jV L)) ↦{fullShare} f) := by
  rw [holds_view, hb]
  iintro ⟨%f, -, H⟩
  iexists f; iexact H

end Own

variable [FloatOps F] (d : Dev nD) (L : grid0.Coords)
variable (q : PosShare TreeShare) (X : Buf (Elt F) (xLoc d)) (M : Buf (Elt F) (pLoc d)) (O₀ : Buf (Elt F) (oLoc d))

/-- The mask's fetch, wherever the program says it is. -/
theorem wp_fetchP {α : Type} (sem : DmaSem sig) (b : Memref sig .scVector .vmem S2560 .i32) (off : Fin 1 → ℕ) (inb)
    (e : off = ![2560 * wid L])
    (hsrc) (hdst : b.view.WordExact) (ht : (DmaTarget.here b : DmaTarget nD τ sig (.scVector (cV L) (jV L)) .vmem S2560 .i32).Typed .hbm (.dma sem))
    (Y : S2560.Idx → Elt F .i32) (kk : PUnit → TProg F L α) (Q : α → sProp 𝕄) :
    iprop((pLoc d ↦{q} M) ∗ holds d L (e := .i32) b Y ∗ semVal (V d (cV L) (jV L), .dma sem) 0)
      ⊢ iprop((iprop(flying d L sem b (iprop(holds d L (e := .i32) b ((psl L).view.read (Elt F) M) ∗ (pLoc d ↦[(psl L).view.set]{q} M)))
            ∗ (pLoc d ↦[Finset.univ \ (psl L).view.set]{q} M))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (.op (.enqueueDma ((pV).slice (Rect.unit (s := S81920) off S2560.size inb) (fun _ => rfl)) (.here b) (.dma sem) hsrc hdst ht) kk) Q) := by
  subst e
  iintro ⟨Hx, Hb, Hv⟩ Hk
  ihave Hs := (pointsTo_split_subset (q := q) (f := M) (S := Finset.univ) (Finset.subset_univ (psl L).view.set)).1 $$ Hx
  icases Hs with ⟨Hs, Hr⟩
  iapply (wp_fetch d L sem b (psl L) (show 0 < S2560.numel by decide) hsrc hdst ht q M Y kk Q) $$ [Hs Hb Hv]
  · isplitl [Hs]; · iexact Hs
    isplitl [Hb]; · iexact Hb
    iexact Hv
  iintro Hf
  iapply Hk
  isplitl [Hf]; · iexact Hf
  iexact Hr

/-- The blocks of the output after the last trip: all there but the two under way. -/
theorem strip_whole :
    iprop((oLoc d ↦[strip (wid L) 480 (480 + 16)]{fullShare} goal d X M O₀) ∗ (oLoc d ↦[strip (wid L) (480 + 16) (480 + 16 + 16)]{fullShare} goal d X M O₀)
        ∗ (oLoc d ↦[strip (wid L) 0 480]{fullShare} goal d X M O₀))
      ⊢ (oLoc d ↦[strip (wid L) 0 512]{fullShare} goal d X M O₀ : sProp 𝕄) :=
  left_join d L X M O₀ 16

set_option maxHeartbeats 4000000 in
/-- The program on vector subcore `(L 0, L 1)` of device `d`: from a share of the input, a share of the mask and rows below 512 of its
    columns of the output, it leaves the pooled rows there. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((xLoc d ↦{q} X) ∗ (pLoc d ↦{q} M) ∗ (oLoc d ↦[strip (wid L) 0 512]{fullShare} O₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sck L xV (Memref.isWhole_whole _) pV (Memref.isWhole_whole _) oV (Memref.isWhole_whole _)
            mV (Memref.isWhole_whole _) rV (Memref.isWhole_whole _) b0 (Memref.isWhole_whole _) b1 (Memref.isWhole_whole _)
            o0 (Memref.isWhole_whole _) o1 (Memref.isWhole_whole _) cc0_scratch6 cc0_scratch7 cc0_scratch8 cc0_scratch9 cc0_scoped0)
          fun _ => iprop(((xLoc d ↦{q} X) ∗ (pLoc d ↦{q} M) ∗ (oLoc d ↦[strip (wid L) 0 512]{fullShare} goal d X M O₀))
            ∗ scopedBufs (V d (cV L) (jV L)) ∗ scopedSems0 (V d (cV L) (jV L)) ∗ owed d L O W) := by
  simp only [cc0_sck_eq_skeleton]; unfold cc0_sck_skel
  rw [(K (F := F)).scopedBufs_V hF d (cV L) (jV L), SparseCore.Cfg.scopedSems0_V (Val := Elt F) d (cV L) (jV L), ownSems0_V, ownBufs_V]
  iintro ⟨#Hlv, -, ⟨Hx, Hp, Ho⟩, ⟨⟨Hm, Hr, Hb0, Hb1, Ho0, Ho1⟩, Hbufs⟩, ⟨⟨Hs0, Hs1, Hs2, Hs3, Hs4⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave HO := (show owes (V d (cV L) (jV L)) O W ⊢ (owed d L O W : sProp 𝕄) by
    unfold owed
    iintro H; iexists W; isplitr; · ipureintro; exact fun p hp => .inl hp
    iexact H) $$ HO
  ihave Hm := (holds_of_own d L mV (View.set_whole _)) $$ Hm
  ihave Hr := (holds_of_own d L rV (View.set_whole _)) $$ Hr
  ihave Hb0 := (holds_of_own d L b0 (View.set_whole _)) $$ Hb0
  ihave Hb1 := (holds_of_own d L b1 (View.set_whole _)) $$ Hb1
  ihave Ho0 := (holds_of_own d L o0 (View.set_whole _)) $$ Ho0
  ihave Ho1 := (holds_of_own d L o1 (View.set_whole _)) $$ Ho1
  icases Hm with ⟨%Ym, Hm⟩
  icases Hr with ⟨%Yr, Hr⟩
  icases Hb0 with ⟨%Y0, Hb0⟩
  ihave Hxx := (pointsTo_share (PosShare.mem_left_op_right q)).1 $$ Hx
  icases Hxx with ⟨Hxa, Hxb⟩
  simp only [k0_part13_eq_skeleton]; unfold k0_part13_skel
  simp only [Prog.bind_op, Prog.bind_ret, Prog.bind_assoc, Prog.lift]
  iapply (wp_fetchX d L X cc0_scratch6.sem b0 0 _ _ (at_off1 L) _ _ _ q.left Y0) $$ [Hxa Hb0 Hs0]
  · isplitl [Hxa]; · iexact Hxa
    isplitl [Hb0] <;> iassumption
  iintro Hf
  iapply (wp_fetchP d L q M cc0_scoped0.sem mV _ _ (at_off2 L) _ _ _ Ym) $$ [Hp Hm Hs4]
  · isplitl [Hp]; · iexact Hp
    isplitl [Hm] <;> iassumption
  iintro ⟨Hg, Hpr⟩
  iapply (wp_land d L cc0_scoped0.sem mV _ _ rfl) $$ [Hg HO]
  · isplitl [Hg]; · iexact Hg
    isplitl [HO]; · iexact HO
    iexact Hmw
  iintro ⟨⟨Hm, Hps⟩, Hs4, HO⟩
  ihave Hp := (pointsTo_split_subset (q := q) (f := M) (S := Finset.univ) (Finset.subset_univ (psl L).view.set)).2 $$ [Hps Hpr]
  · isplitl [Hps] <;> iassumption
  iapply (wp_t1 d L) $$ [Hm Hr]
  · isplitl [Hm] <;> iassumption
  iintro %v0 ⟨Hm, Hr⟩
  iapply (Scf.wp_for_bind frame (wpE (defs₀ (F := F)) 𝒱₀ (V d (cV L) (jV L)) none) Set.univ k0_t2_loop.lb k0_t2_loop.ub k0_t2_loop.st k0_t2_ok 0#32 _
    (fun p _ => (iprop(Transfers.MayWaits (V d (cV L) (jV L)) (default : HIx 1) O ∗ before d L q.left q.right X M O₀ O W p) : sProp 𝕄)) ?trip) $$ [Hf Hxb Hb1 Hs1 Ho Ho0 Ho1 Hs2 Hs3 HO Hr]
  case trip =>
    intro t a
    iintro ⟨#Hmw, H⟩
    iapply (wp_frame_l frame (wpE (defs₀ (F := F)) 𝒱₀ (V d (cV L) (jV L)) none) Set.univ)
    isplitr; · iexact Hmw
    iapply (wp_trip d L q.left q.right X M O₀ O W t a)
    isplitr; · iexact Hmw
    iexact H
  · isplitr; · iexact Hmw
    unfold before fetching stored leaving
    isplitl [HO]; · iexact HO
    isplitl [Hr]; · iexact Hr
    isplitl [Hf]; · iexact Hf
    isplitl [Hxb]; · iexact Hxb
    isplitl [Hb1]; · iexact Hb1
    isplitl [Hs1]; · iexact Hs1
    isplitl [Ho]; · iexact Ho
    isplitl [Ho0 Hs2]; · isplitl [Ho0] <;> iassumption
    isplitl [Ho1 Hs3]; · isplitl [Ho1] <;> iassumption
    rw [show 32 * (0 - 1) = 0 by rfl, strip_empty]
    rw [pointsTo_empty]
    iempintro
  have e16 : Scf.trips k0_t2_loop.lb k0_t2_loop.ub k0_t2_loop.st = 16 := by decide
  rw [e16]
  unfold before fetching stored leaving
  iintro %v1 ⟨-, HO, Hr, ⟨Hf, Hxr⟩, Hxb, Hb1, Hs1, -, Hl0, Hl1, Hdone⟩
  iapply (wp_land d L cc0_scratch6.sem b0 _ _ rfl) $$ [Hf HO]
  · isplitl [Hf]; · iexact Hf
    isplitl [HO]; · iexact HO
    iexact Hmw
  iintro ⟨⟨Hb0, Hxs⟩, Hs0, HO⟩
  ihave Hxa := (x_join d X _ q.left) $$ [Hxs Hxr]; · isplitl [Hxs] <;> iassumption
  ihave Hx := (pointsTo_share (PosShare.mem_left_op_right q)).2 $$ [Hxa Hxb]; · isplitl [Hxa] <;> iassumption
  iapply (wp_land d L cc0_scratch8.sem o0 _ _ ?cr8) $$ [Hl0 HO]
  case cr8 => rfl
  · isplitl [Hl0]; · iexact Hl0
    isplitl [HO]; · iexact HO
    iexact Hmw
  iintro ⟨⟨Hd0, Ho0⟩, Hs2, HO⟩
  iapply (wp_land d L cc0_scratch9.sem o1 _ _ ?cr9) $$ [Hl1 HO]
  case cr9 => rfl
  · isplitl [Hl1]; · iexact Hl1
    isplitl [HO]; · iexact HO
    iexact Hmw
  iintro ⟨⟨Hd1, Ho1⟩, Hs3, HO⟩
  ihave Ho := (strip_whole d L X M O₀) $$ [Hd0 Hd1 Hdone]
  · isplitl [Hd0]; · iexact Hd0
    isplitl [Hd1] <;> iassumption
  icases Hb1 with ⟨%Z1, Hb1⟩
  icases Ho0 with ⟨%V0, Ho0⟩
  icases Ho1 with ⟨%V1, Ho1⟩
  sl_step
  isplitl [Hx Hp Ho]
  · isplitl [Hx]; · iexact Hx
    isplitl [Hp] <;> iassumption
  isplitl [Hm Hr Hb0 Hb1 Ho0 Ho1 Hbufs]
  · isplitr [Hbufs]; swap; · iexact Hbufs
    isplitl [Hm]; · iapply (own_of_holds d L mV (View.set_whole _)) $$ Hm
    isplitl [Hr]; · iapply (own_of_holds d L rV (View.set_whole _)) $$ Hr
    isplitl [Hb0]; · iapply (own_of_holds d L b0 (View.set_whole _)) $$ Hb0
    isplitl [Hb1]; · iapply (own_of_holds d L b1 (View.set_whole _)) $$ Hb1
    isplitl [Ho0]; · iapply (own_of_holds d L o0 (View.set_whole _)) $$ Ho0
    iapply (own_of_holds d L o1 (View.set_whole _)) $$ Ho1
  isplitl [Hs0 Hs1 Hs2 Hs3 Hs4 Hsems]
  · isplitr [Hsems]; swap; · iexact Hsems
    isplitl [Hs0]; · iexact Hs0
    isplitl [Hs1]; · iexact Hs1
    isplitl [Hs2]; · iexact Hs2
    isplitl [Hs3] <;> iassumption
  iexact HO

end Cert.KernelIdeal.Tile
-- ==== Proof.IdealShare.lean ====
/-
  How the arrays are dealt to the thirty-two vector subcores: the input and the mask by shares, the output by strips.
-/
module

public import proofs.«01_k».proof.Proof.IdealBody

@[expose] public section

noncomputable section

namespace Cert.KernelIdeal.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}

local notation "𝕄" => MT nD τ sig (HIx 1) (Elt F) ℕ UU ℕ

/-! ## Shares -/

/-- Piece `i` of share `q` cut in `n + 1`: each piece but the last is the left half of what is left. -/
def piece : (n : ℕ) → PosShare TreeShare → Fin (n + 1) → PosShare TreeShare
  | 0, q => fun _ => q
  | n + 1, q => Fin.cons q.left (piece n q.right)

/-- A product over `n + 1` indices is its first factor and the product of the others. -/
theorem bigSep_head {M : Type} [URA M] (n : ℕ) (Φ : Fin (n + 1) → sProp M) :
    bigSep Finset.univ Φ = iprop(Φ 0 ∗ bigSep Finset.univ fun i : Fin n => Φ i.succ) := by
  rw [Fin.univ_succ, Finset.cons_eq_insert, BI.bigSep_insert (by simp)]
  congr 1
  exact BI.bigSep_map ⟨Fin.succ, Fin.succ_injective n⟩

/-- Contents held at a share are held at all its pieces. -/
theorem pointsTo_pieces {ℓ : Loc nD τ sig} (I : Finset (Idx ℓ)) (f : Buf (Elt F) ℓ) : ∀ (n : ℕ) (q : PosShare TreeShare),
    (ℓ ↦[I]{q} f : sProp 𝕄) = bigSep Finset.univ fun i : Fin (n + 1) => ℓ ↦[I]{piece n q i} f
  | 0, q => (bigSep_univ_of_subsingleton (0 : Fin 1) (Φ := fun i : Fin 1 => (ℓ ↦[I]{piece 0 q i} f : sProp 𝕄))).symm
  | n + 1, q => by
    rw [bigSep_head]
    simp only [piece, Fin.cons_zero, Fin.cons_succ]
    rw [← pointsTo_pieces I f n q.right]
    exact BI.Entails.antisymm (pointsTo_share (PosShare.mem_left_op_right q)).1 (pointsTo_share (PosShare.mem_left_op_right q)).2

/-! ## Who gets what -/

/-- The grid coordinates of subcore `s` of core `c`. -/
def coords (c : Fin 2) (s : Fin 16) : grid0.Coords :=
  fun | 0 => c | 1 => s | ⟨_ + 2, h⟩ => absurd h (Nat.not_lt.2 (Nat.le_add_left _ _))

/-- A tile's number from its core and subcore. -/
theorem wid_coords (c : Fin 2) (s : Fin 16) : wid (coords c s) = 2 * s.val + c.val := rfl

/-- A subcore's share of what all read. -/
def part (c : Fin 2) (s : Fin 16) : PosShare TreeShare := piece 15 (piece 1 fullShare c) s

/-- The whole share of an array is its parts for the tiles. -/
theorem pointsTo_parts {ℓ : Loc nD τ sig} (f : Buf (Elt F) ℓ) :
    (ℓ ↦{fullShare} f : sProp 𝕄) = bigSep Finset.univ fun c : Fin 2 => bigSep Finset.univ fun s : Fin 16 => ℓ ↦{part c s} f := by
  rw [pointsTo_pieces Finset.univ f 1 fullShare]
  exact bigSep_congr fun c _ => pointsTo_pieces Finset.univ f 15 _

/-- The rows the subcores write, core by core. -/
def ofCore (c : Fin 2) : Finset S1024x20480.Idx := Finset.univ.biUnion fun s : Fin 16 => strip (wid (coords c s)) 0 512
def written : Finset S1024x20480.Idx := Finset.univ.biUnion ofCore

/-- A core's part of the output is its subcores' strips. -/
theorem mem_ofCore {c : Fin 2} {i : S1024x20480.Idx} : i ∈ ofCore c ↔ ∃ s : Fin 16, i ∈ strip (wid (coords c s)) 0 512 := by
  simp [ofCore]

/-- The strips of one core's subcores are disjoint, -/
theorem strips_disjoint (c : Fin 2) : ∀ s ∈ (Finset.univ : Finset (Fin 16)), ∀ s' ∈ (Finset.univ : Finset (Fin 16)), s ≠ s' →
    Disjoint (strip (wid (coords c s)) 0 512) (strip (wid (coords c s')) 0 512) := by
  intro s _ s' _ h
  rw [Finset.disjoint_left]
  intro i hi hi'
  rw [mem_strip, wid_coords] at hi hi'
  exact h (Fin.ext (by omega))

/-- and so are the two cores' parts. -/
theorem cores_disjoint : ∀ c ∈ (Finset.univ : Finset (Fin 2)), ∀ c' ∈ (Finset.univ : Finset (Fin 2)), c ≠ c' → Disjoint (ofCore c) (ofCore c') := by
  intro c _ c' _ h
  rw [Finset.disjoint_left]
  intro i hi hi'
  obtain ⟨s, hs⟩ := mem_ofCore.mp hi
  obtain ⟨s', hs'⟩ := mem_ofCore.mp hi'
  rw [mem_strip, wid_coords] at hs hs'
  exact h (Fin.ext (by omega))

/-- Together the strips are all columns of the first half of the rows. -/
theorem mem_written {i : S1024x20480.Idx} (h : (i 0).val < 512) : i ∈ written := by
  have h1 : (i 1).val < 20480 := (i 1).isLt
  refine Finset.mem_biUnion.mpr ⟨⟨(i 1).val / 640 % 2, by omega⟩, Finset.mem_univ _, mem_ofCore.mpr ⟨⟨(i 1).val / 640 / 2, by omega⟩, ?_⟩⟩
  rw [mem_strip, wid_coords]
  dsimp only
  omega

/-- The rows the tiles write are the strips of all of them. -/
theorem pointsTo_strips (d : Dev nD) (f : Buf (Elt F) (oLoc d)) :
    (oLoc d ↦[written]{fullShare} f : sProp 𝕄)
      = bigSep Finset.univ fun c : Fin 2 => bigSep Finset.univ fun s : Fin 16 => oLoc d ↦[strip (wid (coords c s)) 0 512]{fullShare} f := by
  unfold written
  rw [pointsTo_biUnion Finset.univ (ℓ := oLoc d) ofCore cores_disjoint]
  refine bigSep_congr fun c _ => ?_
  unfold ofCore
  rw [pointsTo_biUnion Finset.univ (ℓ := oLoc d) _ (strips_disjoint c)]

/-- Three things and a fourth. -/
theorem sep_last {M : Type} [URA M] (A B C E : sProp M) : iprop(A ∗ B ∗ C ∗ E) = iprop((A ∗ B ∗ C) ∗ E) := by
  have h1 : iprop(A ∗ B ∗ C ∗ E) ⊢ iprop((A ∗ B ∗ C) ∗ E) := by
    iintro ⟨Ha, Hb, Hc, He⟩
    isplitr [He]; swap; · iexact He
    isplitl [Ha]; · iexact Ha
    isplitl [Hb]; · iexact Hb
    iexact Hc
  have h2 : iprop((A ∗ B ∗ C) ∗ E) ⊢ iprop(A ∗ B ∗ C ∗ E) := by
    iintro ⟨⟨Ha, Hb, Hc⟩, He⟩
    isplitl [Ha]; · iexact Ha
    isplitl [Hb]; · iexact Hb
    isplitl [Hc]; · iexact Hc
    iexact He
  exact BI.Entails.antisymm h1 h2

variable (d : Dev nD) (X : Buf (Elt F) (xLoc d)) (M : Buf (Elt F) (pLoc d))

/-- What one subcore is handed, with the output array at `O`. -/
def deal (O : Buf (Elt F) (oLoc d)) (c : Fin 2) (s : Fin 16) : sProp 𝕄 :=
  iprop((xLoc d ↦{part c s} X) ∗ (pLoc d ↦{part c s} M) ∗ (oLoc d ↦[strip (wid (coords c s)) 0 512]{fullShare} O))

/-- The three arrays are what the subcores are handed and the rows none of them writes. -/
theorem deal_all (O : Buf (Elt F) (oLoc d)) :
    iprop((xLoc d ↦{fullShare} X) ∗ (pLoc d ↦{fullShare} M) ∗ (oLoc d ↦{fullShare} O))
      = (iprop((bigSep Finset.univ fun c : Fin 2 => bigSep Finset.univ fun s : Fin 16 => deal d X M O c s) ∗ (oLoc d ↦[writtenᶜ]{fullShare} O)) : sProp 𝕄) := by
  have ho : (oLoc d ↦{fullShare} O : sProp 𝕄) = iprop((oLoc d ↦[written]{fullShare} O) ∗ (oLoc d ↦[writtenᶜ]{fullShare} O)) := by
    have h := pointsTo_union (Name := ℕ) (U := UU) (Lvl := ℕ) (Ix := HIx 1) (ℓ := oLoc d) (q := fullShare) (f := O) (I := written) (J := writtenᶜ) disjoint_compl_right
    rw [← BI.Entails.antisymm h.1 h.2, Finset.union_compl]
  rw [ho, pointsTo_parts X, pointsTo_parts M, pointsTo_strips]
  unfold deal
  simp only [bigSep_sep']
  exact sep_last _ _ _ _

variable [FloatOps F]

/-- The rows none of them writes are as before. -/
theorem goal_rest (O : Buf (Elt F) (oLoc d)) :
    (oLoc d ↦[writtenᶜ]{fullShare} goal d X M O : sProp 𝕄) = (oLoc d ↦[writtenᶜ]{fullShare} O) := by
  refine pointsTo_congr fun i hi => ?_
  have h : ¬ (i 0).val < 512 := fun h => Finset.mem_compl.mp hi (mem_written h)
  show scOut X M O i = O i
  unfold scOut
  exact if_neg h

end Cert.KernelIdeal.Tile

end
-- ==== Proof.IdealGrid.lean ====
/-
  The TensorCore call: what one grid point leaves in the block it writes, and the call as one step of
  the main thread between two contents of the arrays.
-/
module

public import proofs.«01_k».proof.Proof.IdealBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Grid

open Cert.KernelIdeal Cert.KernelIdeal.Gen Cert.KernelIdeal.Tile
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## One grid point -/

abbrev rMask : Rect S1x1x1024 := Rect.unit (s := S1x1x1024) ![0, 0, 0] S1x1x1024.size inb_S1x1x1024_S1x1x1024_0_0_0
abbrev rIn : Rect S256x1024 := Rect.unit (s := S256x1024) ![0, 0] S256x1024.size inb_S256x1024_S256x1024_0_0
abbrev rOut : Rect S256x256 := Rect.unit (s := S256x256) ![0, 0] S256x256.size inb_S256x256_S256x256_0_0

/-- The block a point writes, from the mask's row and the input's block. -/
def block (p : Vec F S1x1x1024 .i32) (x : Vec F S256x1024 .f32) : Vec F S256x256 .f32 :=
  View.canon [⟨rOut, k1_pay1 (k1_pay4 (View.ld p rMask) (View.ld x rIn)) (k1_pay5 (View.ld p rMask)) (k1_pay6 (F := F))⟩]

/-- One store covers the block. -/
theorem block_covers (v : Vec F S256x256 .f32) (y : S256x256.Idx) :
    ∃ pc ∈ ([⟨rOut, v⟩] : List (View.Piece (Elt F) S256x256 .f32)), y ∈ pc.1.set :=
  View.cover_of_tiled [⟨rOut, v⟩] S256x256.size (by rfl) y

set_option maxHeartbeats 1000000 in
/-- The body on three staging buffers: the inputs stay, the output's holds `block` of them. -/
theorem wp_point (c : Dev nD) (E : Set ℕ) (i : grid1.Coords) (a : Memref sig .tc .vmem S1x1x1024 .i32) (ha : a.IsWhole)
    (b : Memref sig .tc .vmem S256x1024 .f32) (hb : b.IsWhole) (o : Memref sig .tc .vmem S256x256 .f32) (ho : o.IsWhole)
    (p : Vec F S1x1x1024 .i32) (x : Vec F S256x1024 .f32) (Q : PUnit → sProp 𝕄) :
    iprop(owns (c : Thread nD τ) a fullShare p ∗ owns (c : Thread nD τ) b fullShare x ∗ (∃ y, owns (c : Thread nD τ) o fullShare y)
        ∗ (iprop(owns (c : Thread nD τ) a fullShare p ∗ owns (c : Thread nD τ) b fullShare x ∗ owns (c : Thread nD τ) o fullShare (block p x)) -∗ Q ⟨⟩))
      ⊢ wp frame (wpE (defs₀ (F := F)) Variants.none c none) E (cc1__tc_pool_body i a ha b hb o ho) Q := by
  simp only [cc1__tc_pool_body_eq_skeleton]; unfold cc1__tc_pool_body_skel
  simp only [k1_part1_eq_skeleton]
  unfold owns
  iintro ⟨⟨%fa, %ea, Ha⟩, ⟨%fb, %eb, Hb⟩, ⟨%y, %fo, -, Ho⟩, Hk⟩
  subst ea eb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (block_covers _)

/-! ## The call's data, from the arrays' contents at its entry -/

variable (V : (c : Dev nD) → (b : Ref sig .tc) → Buf (Elt F) ((c : Thread nD τ).loc b))

/-- The block of window `w`'s array at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The waits recorded so far are those at or below the end of the SparseCore call. -/
def low (c : Dev nD) : Set (SemLoc sig × HIx 1) := {p | (K (F := F)).lev (T c, p.1) p.2 ≤ 8 * (inferInstance : SparseCore.Cfg.Blocks 1 1).fst 1}

/-- The arrays at `V`; after a point the inputs' blocks as fetched and the output's at `block` of them. -/
def dats (_ : Fin 1) (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => block (blk V c 0 t) (blk V c 1 t)
  Φ _ := Pipeline.scopedRest spec1 c
  q _ := fullShare
  owed _ := 0
  recorded _ := low (F := F) c

/-- The arrays at the call's entry. -/
theorem A_eq (c : Dev nD) (w : Fin cfg1.W) : (dats V 0 c).A w = V c (Pipeline.arrRef spec1 w) := by dsimp only [dats]
/-- The mask's block after a point, -/
theorem after_0 (c : Dev nD) (t : Fin cfg1.N) : (dats V 0 c).after 0 t = blk V c 0 t := by dsimp only [dats]
/-- the input's, -/
theorem after_1 (c : Dev nD) (t : Fin cfg1.N) : (dats V 0 c).after 1 t = blk V c 1 t := by dsimp only [dats]
/-- the output's. -/
theorem after_2 (c : Dev nD) (t : Fin cfg1.N) : (dats V 0 c).after 2 t = block (blk V c 0 t) (blk V c 1 t) := by dsimp only [dats]

/-- The mask's block as fetched, -/
theorem before_0 (c : Dev nD) (t : Fin cfg1.N) (d) : (dats V 0 c).before 0 t d = blk V c 0 t :=
  ((dats V 0 c).before_in_eq_fetched 0 rfl (fun _ => rfl) (fun _ _ _ => rfl)
    (fun t => by rw [after_0]; unfold Dat.blockOf blk; rw [A_eq]) t d).trans (by unfold Dat.fetched Dat.blockOf blk; rw [A_eq]; try rfl)
/-- and the input's. -/
theorem before_1 (c : Dev nD) (t : Fin cfg1.N) (d) : (dats V 0 c).before 1 t d = blk V c 1 t :=
  ((dats V 0 c).before_in_eq_fetched 1 rfl (fun _ => rfl) (fun _ _ _ => rfl)
    (fun t => by rw [after_1]; unfold Dat.blockOf blk; rw [A_eq]) t d).trans (by unfold Dat.fetched Dat.blockOf blk; rw [A_eq]; try rfl)

/-- The pipeline's own waits are at the lowest index. -/
abbrev ι : HIx 1 := none

/-- The body at any point, on the three staging buffers it is called with. -/
theorem wp_body (c : Dev nD) (t : Fin cfg1.N) :
    iprop((dats V 0 c).Φ t.castSucc ∗ (dats V 0 c).owesAt ι t.castSucc
      ∗ (∃ d, owns (c : Thread nD τ) (st1_0 t) fullShare ((dats V 0 c).before 0 t d))
      ∗ (∃ d, owns (c : Thread nD τ) (st1_1 t) fullShare ((dats V 0 c).before 1 t d))
      ∗ (∃ d, owns (c : Thread nD τ) (st1_2 t) fullShare ((dats V 0 c).before 2 t d)))
    ⊢ wp frame (wpE (defs₀ (F := F)) Variants.none c none) Set.univ (bodyAt1 t) (fun _ =>
      iprop((dats V 0 c).Φ t.succ ∗ (dats V 0 c).owesAt ι t.succ
      ∗ owns (c : Thread nD τ) (st1_0 t) fullShare ((dats V 0 c).after 0 t)
      ∗ owns (c : Thread nD τ) (st1_1 t) fullShare ((dats V 0 c).after 1 t)
      ∗ owns (c : Thread nD τ) (st1_2 t) fullShare ((dats V 0 c).after 2 t))) := by
  unfold bodyAt1
  simp only [before_0, before_1]
  rw [show (dats V 0 c).Φ t.succ = (dats V 0 c).Φ t.castSucc from rfl,
    show (dats V 0 c).owesAt ι t.succ = (dats V 0 c).owesAt ι t.castSucc from rfl, after_0, after_1, after_2]
  iintro ⟨HΦ, HO, ⟨%e0, H0⟩, ⟨%e1, H1⟩, ⟨%e2, H2⟩⟩
  iapply (wp_point c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- What the pipeline calls at a point is the body on that point's buffers. -/
theorem body_row (t : Fin cfg1.N) : defs₀ (F := F) .tc cfg1.body (cfg1.bodyArgs t (cfg1.slots t)) = bodyAt1 t := rfl

/-- The body does at every point what the pipeline asks of it. -/
theorem body_obligation (c : Dev nD) : BodyObligation (dats V 0 c) (defs₀ (F := F)) 𝒱₀ ι Set.univ := fun t => by
  rw [bigSep_W1, bigSep_W1, body_row]
  exact triple_restated (wp_body V c t) rfl .rfl fun _ => .rfl

/-! ## The call as a step of the main thread -/

abbrev adm (p : Fin 1) : (pcfgs (F := F) p).Adm := (cfgs p).toPCfg_adm

/-- The output array after the call. -/
def written (c : Dev nD) : Buf (Elt F) ((c : Thread nD τ).loc main_v4) := (dats V 0 c).arrAt 2 cfg1.N

/-- What the main thread still owes and has recorded after the SparseCore call. -/
def idle (c : Dev nD) : sProp 𝕄 := iprop(∃ W, ⌜(K (F := F)).WBelow (T c) W (8 * (inferInstance : SparseCore.Cfg.Blocks 1 1).fst 1)⌝
  ∗ owes (T c) (0 : CellTallies nD τ sig (HIx 1)) W)

variable (V' : (c : Dev nD) → (b : Ref sig .tc) → Buf (Elt F) ((c : Thread nD τ).loc b))

set_option backward.isDefEq.respectTransparency.types false in
/-- The TensorCore call takes the arrays from `V` to any `V'` that is `V` but for the output, which it leaves as `written V`. -/
def region (hout : ∀ c, V' c main_v4 = written V c) (hne : ∀ c (b : Ref sig .tc), b ≠ main_v4 → V' c b = V c b) :
    Pipeline.RegionSeg (pcfgs (F := F)) adm (dats V) ι defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ idle (F := F) c)
  post c := iprop(unscopedBufs c (V' c) ∗ idle (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (dats V) winFacts1 arr_whole1 c
      ((dats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V 0 c).Φ 0 = Pipeline.scopedRest spec1 c from rfl]
    iintro ⟨-, -, Hr⟩; iexact Hr
  hout c := by
    rw [Pipeline.ownSems0_none, show (dats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      winFacts1 arr_whole1 c
      (dats V) ((dats V 0 c).share_full fun _ => rfl) (V c) (V' c) ((dats V 0 c).arrAt · cfg1.N)
      (fun w => by
        fin_cases w
        · exact ((dats V 0 c).arrAt_in 0 rfl _).trans (hne c main_v3 (by decide)).symm
        · exact ((dats V 0 c).arrAt_in 1 rfl _).trans (hne c main_v0 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold idle Pipeline.Dat.owesAt Pipeline.owesWithin
    icases HO with ⟨%W, %hW, HO⟩; iexists W; isplitr
    · ipureintro
      intro p hp
      rcases hW hp with h | h
      · exact h
      · obtain ⟨w, s, rfl⟩ := h; exact Nat.zero_le _
    iexact HO

end Cert.KernelIdeal.Grid

end
-- ==== Proof.IdealLaunch.lean ====
/-
  The whole program: what the launch hands the vector subcores and the main thread, the main thread's run
  through the two kernels, and what every run ends with.
-/
module

public import proofs.«01_k».proof.Proof.IdealShare
public import proofs.«01_k».proof.Proof.IdealGrid
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.KernelIdeal.Run

open Cert.KernelIdeal Cert.KernelIdeal.Gen Cert.KernelIdeal.Tile
open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1024x81920 EltTy.f32)
local notation "pV" => (Memref.whole Cert.KernelIdeal.main_v1_scv : Memref Cert.KernelIdeal.sig Kind.scVector Space.hbm Cert.KernelIdeal.S81920 EltTy.i32)
local notation "oV" => (Memref.whole Cert.KernelIdeal.main_v2_scv : Memref Cert.KernelIdeal.sig Kind.scVector Space.hbm Cert.KernelIdeal.S1024x20480 EltTy.f32)
local notation "mV" => (Memref.whole Cert.KernelIdeal.cc0_scratch0 : Memref Cert.KernelIdeal.sig Kind.scVector Space.vmem Cert.KernelIdeal.S2560 EltTy.i32)
local notation "rV" => (Memref.whole Cert.KernelIdeal.cc0_scratch1 : Memref Cert.KernelIdeal.sig Kind.scVector Space.vmem Cert.KernelIdeal.S640 EltTy.f32)
local notation "b0" => (Memref.whole Cert.KernelIdeal.cc0_scratch2 : Memref Cert.KernelIdeal.sig Kind.scVector Space.vmem Cert.KernelIdeal.S16x2560 EltTy.f32)
local notation "b1" => (Memref.whole Cert.KernelIdeal.cc0_scratch3 : Memref Cert.KernelIdeal.sig Kind.scVector Space.vmem Cert.KernelIdeal.S16x2560 EltTy.f32)
local notation "o0" => (Memref.whole Cert.KernelIdeal.cc0_scratch4 : Memref Cert.KernelIdeal.sig Kind.scVector Space.vmem Cert.KernelIdeal.S16x640 EltTy.f32)
local notation "o1" => (Memref.whole Cert.KernelIdeal.cc0_scratch5 : Memref Cert.KernelIdeal.sig Kind.scVector Space.vmem Cert.KernelIdeal.S16x640 EltTy.f32)

/-! ## The launch set-up -/

/-- The call runs on sixteen subcores -/
theorem nSub_zero : (K (F := F)).nSub 0 = 16 := rfl
/-- of each of two cores. -/
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

/-- The four launch signals differ from one another and are not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
/-- The pipeline's rounds, within the ghost state. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

variable [FloatOps F]

/-! ## The arrays along the run -/

variable (m : (ℓ : Loc nD τ sig) → Buf (Elt F) ℓ) (ρ : Dev nD → PrngReg)

abbrev opsA : List (HloOp τ sig (Elt F)) :=
  [StableHlo.reshape main_arg0 main_v0 (rfl : (.f32 : EltTy) = .f32) shapeCasts_S4x256x81920_S1024x81920,
   StableHlo.reshape main_arg1 main_v1 (rfl : (.i32 : EltTy) = .i32) shapeCasts_S20480x4_S81920]
abbrev opsB : List (HloOp τ sig (Elt F)) :=
  [StableHlo.reshape main_arg1 main_v3 (rfl : (.i32 : EltTy) = .i32) shapeCasts_S20480x4_S80x1x1024]
abbrev opsC : List (HloOp τ sig (Elt F)) :=
  [StableHlo.nullary main_c (constantI S_ 32 512#32), StableHlo.nullary main_c_0 (constantI S_ 32 0#32),
   StableHlo.binaryIndexed main_v2 main_v4 ![main_c, main_c_0] ⟨S_, .i32⟩ main_v5 ((fun x u i => Host.dynamicUpdateSlice x u (fun k => (i k (Shape.Idx.first h_S_)).toInt) updateFits_S1024x20480_S512x20480) : (⟨S1024x20480, .f32⟩ : BufTy).Contents (Elt F) → (⟨S512x20480, .f32⟩ : BufTy).Contents (Elt F) → (Fin 2 → (⟨S_, .i32⟩ : BufTy).Contents (Elt F)) → (⟨S1024x20480, .f32⟩ : BufTy).Contents (Elt F)),
   StableHlo.reshape main_v5 main_v6 (rfl : (.f32 : EltTy) = .f32) shapeCasts_S1024x20480_S4x256x20480]

/-- As launched; -/
abbrev W0 (d : Dev nD) : Valuation τ sig (Elt F) := fun b => m (d, b)
/-- when the SparseCore call starts; -/
def W1 (d : Dev nD) : Valuation τ sig (Elt F) := StableHlo.after opsA (W0 m d)
/-- when it is over; -/
def W2 (d : Dev nD) : Valuation τ sig (Elt F) :=
  Function.update (W1 m d) (Proc.devRef .tc main_v2) (goal d (W1 m d (Proc.devRef .tc main_v0)) (W1 m d (Proc.devRef .tc main_v1)) (W1 m d (Proc.devRef .tc main_v2)))
/-- when the TensorCore call starts; -/
def W3 (d : Dev nD) : Valuation τ sig (Elt F) := StableHlo.after opsB (W2 m d)
/-- when it is over; -/
def W4 (d : Dev nD) : Valuation τ sig (Elt F) :=
  Function.update (W3 m d) (Proc.devRef .tc main_v4) (Grid.written (fun c b => W3 m c (Proc.devRef .tc b)) d)
/-- at the end. -/
def W5 (d : Dev nD) : Valuation τ sig (Elt F) := StableHlo.after opsC (W4 m d)

/-! ## What the handshakes carry -/

/-- Each core's call takes what its subcores are handed, and brings the same back with the output's strips filled. -/
def P : (K (F := F)).Pay (nD := nD) (Val := Elt F) (Name := ℕ) (U := UU) where
  st := fun q d c => match q with
    | 0 => bigSep Finset.univ fun i : Fin ((K (F := F)).nSub 0) => deal d (W1 m d (Proc.devRef .tc main_v0)) (W1 m d (Proc.devRef .tc main_v1)) (W1 m d (Proc.devRef .tc main_v2)) (Fin.cast nCore_zero c) (Fin.cast nSub_zero i)
  dn := fun q d c => match q with
    | 0 => bigSep Finset.univ fun i : Fin ((K (F := F)).nSub 0) => deal d (W1 m d (Proc.devRef .tc main_v0)) (W1 m d (Proc.devRef .tc main_v1)) (W2 m d (Proc.devRef .tc main_v2)) (Fin.cast nCore_zero c) (Fin.cast nSub_zero i)
  go := fun q d c i => match q with
    | 0 => deal d (W1 m d (Proc.devRef .tc main_v0)) (W1 m d (Proc.devRef .tc main_v1)) (W1 m d (Proc.devRef .tc main_v2)) (Fin.cast nCore_zero c) (Fin.cast nSub_zero i)
  td := fun q d c i => match q with
    | 0 => deal d (W1 m d (Proc.devRef .tc main_v0)) (W1 m d (Proc.devRef .tc main_v1)) (W2 m d (Proc.devRef .tc main_v2)) (Fin.cast nCore_zero c) (Fin.cast nSub_zero i)
  x := fun _ _ => iprop(emp)

omit [FloatOps F] in
instance deal_storable (d : Dev nD) (X : Buf (Elt F) (xLoc d)) (M : Buf (Elt F) (pLoc d)) (O : Buf (Elt F) (oLoc d)) (c : Fin 2) (s : Fin 16) :
    BI.Storable (upEmb : UEmb _ 𝕄) (deal d X M O c s) := by unfold deal; infer_instance

instance P_storable : (P (F := F) m).IsStorable where
  st q d c := match q with
    | 0 => (inferInstance : BI.Storable (upEmb : UEmb _ 𝕄) (bigSep Finset.univ fun i : Fin ((K (F := F)).nSub 0) => deal d (W1 m d (Proc.devRef .tc main_v0)) (W1 m d (Proc.devRef .tc main_v1)) (W1 m d (Proc.devRef .tc main_v2)) (Fin.cast nCore_zero c) (Fin.cast nSub_zero i)))
  dn q d c := match q with
    | 0 => (inferInstance : BI.Storable (upEmb : UEmb _ 𝕄) (bigSep Finset.univ fun i : Fin ((K (F := F)).nSub 0) => deal d (W1 m d (Proc.devRef .tc main_v0)) (W1 m d (Proc.devRef .tc main_v1)) (W2 m d (Proc.devRef .tc main_v2)) (Fin.cast nCore_zero c) (Fin.cast nSub_zero i)))
  go q d c i := match q with
    | 0 => (inferInstance : BI.Storable (upEmb : UEmb _ 𝕄) (deal d (W1 m d (Proc.devRef .tc main_v0)) (W1 m d (Proc.devRef .tc main_v1)) (W1 m d (Proc.devRef .tc main_v2)) (Fin.cast nCore_zero c) (Fin.cast nSub_zero i)))
  td q d c i := match q with
    | 0 => (inferInstance : BI.Storable (upEmb : UEmb _ 𝕄) (deal d (W1 m d (Proc.devRef .tc main_v0)) (W1 m d (Proc.devRef .tc main_v1)) (W2 m d (Proc.devRef .tc main_v2)) (Fin.cast nCore_zero c) (Fin.cast nSub_zero i)))

/-! ## The subcores' part -/

/-- What a vector subcore runs when called. -/
theorem defs₀_vector (c : Fin τ.nSC) (s : Fin τ.nSub) :
    defs₀ (F := F) (.scVector c s) 0 ()
      = SparseCore.onTile hcore0 hsub0 (fun c s => cc0_sck (coords c s) xV (Memref.isWhole_whole _) pV (Memref.isWhole_whole _) oV (Memref.isWhole_whole _)
            mV (Memref.isWhole_whole _) rV (Memref.isWhole_whole _) b0 (Memref.isWhole_whole _) b1 (Memref.isWhole_whole _)
            o0 (Memref.isWhole_whole _) o1 (Memref.isWhole_whole _) cc0_scratch6 cc0_scratch7 cc0_scratch8 cc0_scratch9 cc0_scoped0) ⟨⟩ c s := rfl

/-- What a task ends with, in the order the launch asks for. -/
theorem obl_post {d : Dev nD} {L : grid0.Coords} {A B C : sProp 𝕄} {O : CellTallies nD τ sig (HIx 1)} {W : Waits sig (HIx 1)} {q : Fin 1} :
    iprop(A ∗ B ∗ C ∗ Tile.owed d L O W)
      ⊢ iprop(A ∗ B ∗ C ∗ ∃ W', ⌜∀ p ∈ W', p ∈ W ∨ p.2 = none ∨ p.2 = some q⌝ ∗ owes (V d (cV L) (jV L)) O W') := by
  unfold Tile.owed
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The SparseCore call's array afterwards. -/
theorem W2_out (d : Dev nD) : W2 m d (Proc.devRef .tc main_v2) = goal d (W1 m d (Proc.devRef .tc main_v0)) (W1 m d (Proc.devRef .tc main_v1)) (W1 m d (Proc.devRef .tc main_v2)) := by
  unfold W2; exact Function.update_self ..

set_option maxRecDepth 16384 in
/-- Every subcore's task, from what it is handed to what it brings back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coords ⟨_, hci.1⟩ ⟨_, hci.2⟩) (part (Fin.cast nCore_zero c) (Fin.cast nSub_zero i)) (W1 m d (Proc.devRef .tc main_v0)) (W1 m d (Proc.devRef .tc main_v1)) (W1 m d (Proc.devRef .tc main_v2)) hF O W hO
  rw [← W2_out] at h
  exact h.trans (wp_mono frame _ _ fun _ => obl_post)

/-- A core's call hands its subcores all it took, and brings back all they do. -/
theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

/-! ## The ghost state at launch -/

abbrev pins : Fin 1 → Pipeline.Cfg sig Λ₀ := Pipeline.pin (pcfgs (F := F)) Grid.adm

omit [FloatOps F] in
/-- No two staging buffers share a cell. -/
theorem pins_inj : Function.Injective (Pipeline.cellOf (nD := nD) (τ := τ) (pins (F := F))) := cellOf_inj

/-- The handshakes' rounds, the pipeline's rounds, and no counter. -/
def u₀ : UU := (initOf (K (F := F)).hsCells (K (F := F)).hsToks,
  (initOf (Pipeline.cells (pins (F := F)) pins_inj) (Pipeline.launchToks (pins (F := F)) pins_inj), 1))

/-- What the main thread keeps of it: the pipeline's cells and tokens. -/
def G (d : Dev nD) : sProp 𝕄 :=
  iprop((bigSep Finset.univ fun p => Pipeline.cellsGhost (pins (F := F)) EP p d) ∗ bigSep Finset.univ fun p => Pipeline.toksInit (pins (F := F)) EP p d)

omit [FloatOps F] in
/-- Nothing, any number of times, is nothing. -/
theorem bigSep_emp' {I : Type} (s : Finset I) : (bigSep s fun _ => iprop(emp)) = (iprop(emp) : sProp 𝕄) := bigSep_emp_const s

/-- The ghost state splits into the handshakes' and the main thread's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HR⟩
  ihave H := (own_pair_emb embR (initOf (Pipeline.cells (pins (F := F)) pins_inj) (Pipeline.launchToks (pins (F := F)) pins_inj)) (1 : Counters)) $$ HR
  icases H with ⟨HP, -⟩
  imod (Pipeline.fund_ghost (pins (F := F)) EP pins_inj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main thread -/

/-- Three of the unscoped arrays apart from the rest. -/
def others (d : Dev nD) (R : Finset (Ref sig .tc)) (W : Valuation τ sig (Elt F)) : sProp 𝕄 :=
  bigSep ((Finset.univ.filter fun b : Ref sig .tc => ¬ b.isScoped) \ R) fun b => (SparseCore.T d).loc b ↦{fullShare} W (Proc.devRef .tc b)

omit [FloatOps F] in
/-- Three of the main thread's arrays taken out of them all. -/
theorem unscoped_split (d : Dev nD) (W : Valuation τ sig (Elt F)) (a b c : Ref sig .tc) (hab : a ∉ ({b, c} : Finset (Ref sig .tc))) (hbc : b ∉ ({c} : Finset (Ref sig .tc)))
    (h : ({a, b, c} : Finset (Ref sig .tc)) ⊆ Finset.univ.filter fun b : Ref sig .tc => ¬ b.isScoped) :
    (unscopedBufs d (fun b => W (Proc.devRef .tc b)) : sProp 𝕄)
      = iprop((((SparseCore.T d).loc a ↦{fullShare} W (Proc.devRef .tc a)) ∗ ((SparseCore.T d).loc b ↦{fullShare} W (Proc.devRef .tc b)) ∗ ((SparseCore.T d).loc c ↦{fullShare} W (Proc.devRef .tc c)))
        ∗ others d {a, b, c} W) := by
  unfold unscopedBufs others
  rw [SparseCore.bigSep_sdiff_split' h, SparseCore.bigSep_insert' hab, SparseCore.bigSep_insert' hbc, bigSep_singleton]

omit [FloatOps F] in
/-- The others depend only on their own contents. -/
theorem others_congr (d : Dev nD) (R : Finset (Ref sig .tc)) (W W' : Valuation τ sig (Elt F)) (h : ∀ b : Ref sig .tc, b ∉ R → W (Proc.devRef .tc b) = W' (Proc.devRef .tc b)) :
    (others d R W : sProp 𝕄) = others d R W' := by
  unfold others
  exact bigSep_congr fun b hb => congrArg (fun f => ((SparseCore.T d).loc b ↦{fullShare} f : sProp 𝕄)) (h b (Finset.mem_sdiff.mp hb).2)

/-- The SparseCore call changes no other array. -/
theorem W2_ne (d : Dev nD) (b : Ref sig .tc) (h : b ≠ main_v2) : W2 m d (Proc.devRef .tc b) = W1 m d (Proc.devRef .tc b) := by
  unfold W2; exact Function.update_of_ne (StableHlo.devRef_ne_of_ne h) ..
/-- The TensorCore call's array afterwards. -/
theorem W4_out (d : Dev nD) : W4 m d (Proc.devRef .tc main_v4) = Grid.written (fun c b => W3 m c (Proc.devRef .tc b)) d := by
  unfold W4; exact Function.update_self ..
/-- The TensorCore call changes no other array. -/
theorem W4_ne (d : Dev nD) (b : Ref sig .tc) (h : b ≠ main_v4) : W4 m d (Proc.devRef .tc b) = W3 m d (Proc.devRef .tc b) := by
  unfold W4; exact Function.update_of_ne (StableHlo.devRef_ne_of_ne h) ..

/-- The arrays when the SparseCore call starts: what its cores take, the rows they leave alone, and the rest. -/
theorem enter_sc (d : Dev nD) : (unscopedBufs d (fun b => W1 m d (Proc.devRef .tc b)) : sProp 𝕄)
    = iprop(((bigSep Finset.univ fun c : Fin ((K (F := F)).nCore 0) => (P m).st 0 d c) ∗ (oLoc d ↦[writtenᶜ]{fullShare} W1 m d (Proc.devRef .tc main_v2)))
      ∗ others d {main_v0, main_v1, main_v2} (W1 m d)) := by
  rw [unscoped_split d (W1 m d) main_v0 main_v1 main_v2 (by decide) (by decide) (by decide)]
  congr 1
  exact deal_all d _ _ _

/-- The same when it is over. -/
theorem leave_sc (d : Dev nD) : (unscopedBufs d (fun b => W2 m d (Proc.devRef .tc b)) : sProp 𝕄)
    = iprop(((bigSep Finset.univ fun c : Fin ((K (F := F)).nCore 0) => (P m).dn 0 d c) ∗ (oLoc d ↦[writtenᶜ]{fullShare} W1 m d (Proc.devRef .tc main_v2)))
      ∗ others d {main_v0, main_v1, main_v2} (W1 m d)) := by
  rw [unscoped_split d (W2 m d) main_v0 main_v1 main_v2 (by decide) (by decide) (by decide),
    others_congr d {main_v0, main_v1, main_v2} (W2 m d) (W1 m d) fun b hb => W2_ne m d b fun h => hb (by rw [h]; decide)]
  congr 1
  rw [W2_ne m d main_v0 (by decide), W2_ne m d main_v1 (by decide), ← goal_rest d (W1 m d (Proc.devRef .tc main_v0)) (W1 m d (Proc.devRef .tc main_v1)) (W1 m d (Proc.devRef .tc main_v2)), ← W2_out]
  exact deal_all d _ _ _

/-- One host operation of the main thread on the arrays. -/
theorem wp_op (d : Dev nD) (op : HloOp τ sig (Elt F)) (hS : op.bufs ⊆ StableHlo.tcRefs τ sig) (hf : op.fresh = ∅) (W : Valuation τ sig (Elt F)) (Q : PUnit → sProp 𝕄) :
    iprop(boundary (SparseCore.T d) ∗ unscopedBufs d (fun b => W (Proc.devRef .tc b)) ∗ ((boundary (SparseCore.T d) ∗ unscopedBufs d (fun b => op.result W (Proc.devRef .tc b))) -∗ Q ⟨⟩))
      ⊢ wp frame (wpE ((K (F := F)).defs (D (F := F))) 𝒱 (SparseCore.T d) none) Set.univ (hlo rfl op fun _ => .ret ⟨⟩) Q := by
  rw [show (unscopedBufs d (fun b => W (Proc.devRef .tc b)) : sProp 𝕄) = StableHlo.held (SparseCore.T d) (Pipeline.ucRefs τ sig) W from Pipeline.unscopedBufs_held d W,
    show (unscopedBufs d (fun b => op.result W (Proc.devRef .tc b)) : sProp 𝕄) = StableHlo.held (SparseCore.T d) (Pipeline.ucRefs τ sig) (op.result W) from Pipeline.unscopedBufs_held d _]
  iintro ⟨Hb, Hu, Hk⟩
  iapply (StableHlo.wp_hlo_within 𝒱 (SparseCore.T d) none Set.univ (Pipeline.sub_ucRefs op hS) (hf := hf)) $$ [Hb Hu]
  · isplitl [Hb] <;> iassumption
  iintro H
  rw [wp_ret]
  imodintro
  iapply Hk; iexact H

omit [FloatOps F] in
/-- After the one call the main thread owes nothing. -/
theorem otc_one (d : Dev nD) : (K (F := F)).Otc d 1 = 0 := by
  unfold SparseCore.Cfg.Otc
  exact Finset.sum_eq_zero fun q _ => if_neg (by omega)

end Cert.KernelIdeal.Run

end
-- ==== Proof.IdealMain.lean ====
/-
  The main thread's run, and every run of the program.
-/
module

public import proofs.«01_k».proof.Proof.IdealLaunch

@[expose] public section

noncomputable section

namespace Cert.KernelIdeal.Run

open Cert.KernelIdeal Cert.KernelIdeal.Gen Cert.KernelIdeal.Tile
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The arrays when the TensorCore call starts and when it is over, at the TensorCore's references. -/
abbrev V3 (c : Dev nD) (b : Ref sig .tc) : Buf (Elt F) ((c : Thread nD τ).loc b) := W3 m c (Proc.devRef .tc b)
abbrev V4 (c : Dev nD) (b : Ref sig .tc) : Buf (Elt F) ((c : Thread nD τ).loc b) := W4 m c (Proc.devRef .tc b)

abbrev reg := Grid.region (V3 m) (V4 m) (fun c => W4_out m c) (fun c b h => W4_ne m c b h)

/-- The main thread's ghost state, for the one pipeline. -/
theorem G_eq (d : Dev nD) : G (F := F) d = iprop(Pipeline.cellsGhost (pins (F := F)) EP 0 d ∗ Pipeline.toksInit (pins (F := F)) EP 0 d) := by
  unfold G
  rw [bigSep_univ_of_subsingleton (0 : Fin 1) (Φ := fun p => Pipeline.cellsGhost (pins (F := F)) EP p d),
    bigSep_univ_of_subsingleton (0 : Fin 1) (Φ := fun p => Pipeline.toksInit (pins (F := F)) EP p d)]

/-- The TensorCore call among the pipeline's labels. -/
def call : Prog (TpuEff nD τ sig (Elt F) (ΛP (F := F)) .tc) PUnit := .op (.customCall (Pipeline.entry 0) ()) .ret

/-- The main thread's call is that one. -/
theorem call_lift : (Prog.lift (.customCall (SparseCore.inner (Pipeline.entry 0)) ()) : Prog (TpuEff nD τ sig (Elt F) (SparseCore.Sig (ΛP (F := F)) 1) .tc) PUnit)
    = SparseCore.liftProg (call (F := F)) := rfl

/-- The TensorCore call on the arrays, between the calls' handshakes. -/
theorem wp_call (κ : GSem nD τ sig → ℕ) (d : Dev nD) (Q : PUnit → sProp 𝕄) :
    iprop((K (F := F)).ctx EH (P m) κ ∗ (K (F := F)).tcSt EH d 1 ∗ boundary (SparseCore.T d) ∗ unscopedBufs d (V3 m d) ∗ G (F := F) d
        ∗ ((iprop((K (F := F)).tcSt EH d 1 ∗ boundary (SparseCore.T d) ∗ unscopedBufs d (V4 m d))) -∗ Q ⟨⟩))
      ⊢ wp frame (wpE ((K (F := F)).defs (D (F := F))) 𝒱 (SparseCore.T d) none) Set.univ
          (Prog.lift (.customCall (SparseCore.inner (Pipeline.entry 0)) ())) Q := by
  have h := (K (F := F)).wp_liftProg (D (F := F)) 𝒱 (SparseCore.T d) Set.univ none (call (F := F)) Q
  rw [← call_lift] at h
  refine (?_ : _ ⊢ _).trans h
  clear h
  unfold call
  have hR := Pipeline.RegionSeg.wp (pcfgs (F := F)) Grid.adm (Grid.dats (V3 m)) Grid.ι pins_inj EP defs₀ 𝒱₀ (K (F := F)).L (K (F := F)).lev (reg m) d none
    (fun _ h => nomatch h) .ret Q
  rw [show (reg m).pre d = iprop(unscopedBufs d (V3 m d) ∗ Grid.idle (F := F) d) from rfl,
    show (reg m).post d = iprop(unscopedBufs d (V4 m d) ∗ Grid.idle (F := F) d) from rfl] at hR
  unfold Grid.idle at hR
  unfold SparseCore.Cfg.tcSt
  rw [otc_one, G_eq]
  iintro ⟨#Hctx, ⟨Ho, Hrest⟩, Hb, Hu, ⟨Hg, Ht⟩, Hk⟩
  ihave #Hlv := (SparseCore.Cfg.ctx_levAts κ) $$ Hctx
  iapply hR
  isplitl [Hk Hrest]
  · iintro ⟨Hb, Hu, Hi⟩
    rw [wp_ret]
    imodintro
    iapply Hk
    isplitl [Hi Hrest]
    · isplitl [Hi]; · iexact Hi
      iexact Hrest
    isplitl [Hb] <;> iassumption
  isplitl [Hb]; · iexact Hb
  isplitl [Hu Ho]
  · isplitl [Hu]; · iexact Hu
    iexact Ho
  isplitr; · iexact Hlv
  isplitl [Hg] <;> iassumption

/-- What the main thread ends with. -/
abbrev FIN (d : Dev nD) : sProp 𝕄 := unscopedBufs d (fun b => W5 m d (Proc.devRef .tc b))

/-- After the first two operations the arrays are what the SparseCore call takes, and the rest. -/
theorem first_ops (d : Dev nD) :
    (unscopedBufs d (fun b => (StableHlo.reshape main_arg1 main_v1 (rfl : (.i32 : EltTy) = .i32) shapeCasts_S20480x4_S81920).result
      ((StableHlo.reshape main_arg0 main_v0 (rfl : (.f32 : EltTy) = .f32) shapeCasts_S4x256x81920_S1024x81920).result (W0 m d)) (Proc.devRef .tc b)) : sProp 𝕄)
    ⊢ iprop(((bigSep Finset.univ fun c : Fin ((K (F := F)).nCore 0) => (P m).st 0 d c) ∗ (oLoc d ↦[writtenᶜ]{fullShare} W1 m d (Proc.devRef .tc main_v2)))
      ∗ others d {main_v0, main_v1, main_v2} (W1 m d)) :=
  Entails.of_eq (enter_sc m d)

set_option maxRecDepth 16384 in
/-- The main thread on the arrays: as launched at the start, at their last contents at the end. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = unscopedBufs d (fun b => W0 m d (Proc.devRef .tc b)) from rfl]
  simp only [main, wp_bind, wp_pure]
  iintro ⟨#Hctx, Hst, ⟨Hb, Hu, Hts, -⟩, HG⟩
  iapply (wp_op d _ (StableHlo.reshape_bufs_sub ..) rfl (W0 m d) _)
  isplitl [Hb]; · iexact Hb
  isplitl [Hu]; · iexact Hu
  iintro ⟨Hb, Hu⟩
  iapply (wp_op d _ (StableHlo.reshape_bufs_sub ..) rfl _ _)
  isplitl [Hb]; · iexact Hb
  isplitl [Hu]; · iexact Hu
  iintro ⟨Hb, Hu⟩
  ihave Hu := (first_ops m d) $$ Hu
  icases Hu with ⟨⟨Hin, Hrest⟩, Hoth⟩
  iapply ((K (F := F)).wp_run (D (F := F)) 𝒱 (EH := EH) (P := P m) κ d 0) $$ [Hst Hin Hrest Hoth Hb Hts HG]
  isplitr; · iexact Hctx
  isplitl [Hst]; · iexact Hst
  isplitl [Hin]; · iexact Hin
  iintro ⟨Hst, Hdn⟩
  ihave Hu := (Entails.of_eq (leave_sc m d).symm) $$ [Hdn Hrest Hoth]
  · isplitr [Hoth]; swap; · iexact Hoth
    isplitl [Hdn] <;> iassumption
  iapply (wp_op d _ (StableHlo.reshape_bufs_sub ..) rfl (W2 m d) _)
  isplitl [Hb]; · iexact Hb
  isplitl [Hu]; · iexact Hu
  iintro ⟨Hb, Hu⟩
  iapply (wp_call m κ d _)
  isplitr; · iexact Hctx
  isplitl [Hst]; · iexact Hst
  isplitl [Hb]; · iexact Hb
  isplitl [Hu]; · iexact Hu
  isplitl [HG]; · iexact HG
  iintro ⟨Hst, Hb, Hu⟩
  iapply (wp_op d _ (StableHlo.nullary_bufs_sub ..) rfl (W4 m d) _)
  isplitl [Hb]; · iexact Hb
  isplitl [Hu]; · iexact Hu
  iintro ⟨Hb, Hu⟩
  iapply (wp_op d _ (StableHlo.nullary_bufs_sub ..) rfl _ _)
  isplitl [Hb]; · iexact Hb
  isplitl [Hu]; · iexact Hu
  iintro ⟨Hb, Hu⟩
  iapply (wp_op d _ (StableHlo.binaryIndexed_bufs_sub ..) rfl _ _)
  isplitl [Hb]; · iexact Hb
  isplitl [Hu]; · iexact Hu
  iintro ⟨Hb, Hu⟩
  iapply (wp_op d _ (StableHlo.reshape_bufs_sub ..) rfl _ _)
  isplitl [Hb]; · iexact Hb
  isplitl [Hu]; · iexact Hu
  iintro ⟨Hb, Hu⟩
  imodintro
  isplitl [Hst]; · iexact Hst
  isplitl [Hu]; · iexact Hu
  isplitl [Hb] <;> iassumption

/-! ## Every run -/

/-- The whole program leaves its first argument as launched, -/
theorem W5_arg0 (d : Dev nD) : W5 m d (Proc.devRef .tc main_arg0) = m ((SparseCore.T d).loc main_arg0) := by
  show StableHlo.after opsC (W4 m d) (Proc.devRef .tc main_arg0) = _
  after_results
  rw [W4_ne m d main_arg0 (by decide)]
  show StableHlo.after opsB (W2 m d) (Proc.devRef .tc main_arg0) = _
  after_results
  rw [W2_ne m d main_arg0 (by decide)]
  show StableHlo.after opsA (W0 m d) (Proc.devRef .tc main_arg0) = _
  after_results

/-- and its second. -/
theorem W5_arg1 (d : Dev nD) : W5 m d (Proc.devRef .tc main_arg1) = m ((SparseCore.T d).loc main_arg1) := by
  show StableHlo.after opsC (W4 m d) (Proc.devRef .tc main_arg1) = _
  after_results
  rw [W4_ne m d main_arg1 (by decide)]
  show StableHlo.after opsB (W2 m d) (Proc.devRef .tc main_arg1) = _
  after_results
  rw [W2_ne m d main_arg1 (by decide)]
  show StableHlo.after opsA (W0 m d) (Proc.devRef .tc main_arg1) = _
  after_results

/-- What is read off a device's memory at the end: the arguments as launched, the result at its last contents. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v6) = W5 m d (Proc.devRef .tc main_v6)

/-- The final arrays are what the memory holds. -/
theorem hfin (d : Dev nD) (s' : Phys nD τ sig (Elt F)) : iprop(FIN m d ∗ SI s') ⊢ (⌜fq m d s'⌝ : sProp 𝕄) := by
  unfold FIN
  rw [unscoped_split d (W5 m d) main_arg0 main_arg1 main_v6 (by decide) (by decide) (by decide)]
  iintro ⟨⟨⟨Hx, Hp, Ho⟩, -⟩, HSI⟩
  ihave H := (persistent_entails_right (SI_pointsTo_agree (st := s') (ℓ := (SparseCore.T d).loc main_arg0) (I := Finset.univ) (q := fullShare) (f := W5 m d (Proc.devRef .tc main_arg0)))) $$ [HSI Hx]
  · isplitl [HSI] <;> iassumption
  icases H with ⟨%h1, HSI, -⟩
  ihave H := (persistent_entails_right (SI_pointsTo_agree (st := s') (ℓ := (SparseCore.T d).loc main_arg1) (I := Finset.univ) (q := fullShare) (f := W5 m d (Proc.devRef .tc main_arg1)))) $$ [HSI Hp]
  · isplitl [HSI] <;> iassumption
  icases H with ⟨%h2, HSI, -⟩
  ihave H := (SI_pointsTo_agree (st := s') (ℓ := (SparseCore.T d).loc main_v6) (I := Finset.univ) (q := fullShare) (f := W5 m d (Proc.devRef .tc main_v6))) $$ [HSI Ho]
  · isplitl [HSI] <;> iassumption
  icases H with %h3
  ipureintro
  exact ⟨(funext fun i => h1 i (Finset.mem_univ i)).trans (W5_arg0 m d), (funext fun i => h2 i (Finset.mem_univ i)).trans (W5_arg1 m d), funext fun i => h3 i (Finset.mem_univ i)⟩

/-- The same of every device, with no signal left behind. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v6) = W5 m c (Proc.devRef .tc main_v6)) ∧ r.2.sem = fun _ => 0

/-- Every run from a launch memory ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.KernelIdeal.Run

end
-- ==== Proof.Value.lean ====
/- The kernel's result array: at every row and parent the mean of the parent's four children. -/
module

public import proofs.«01_k».proof.Proof.Block
public import proofs.«01_k».proof.Proof.IdealMain
public import Idealize.ShloMosaic.Lib.Pipeline.ValueKit

@[expose] public section

set_option maxRecDepth 16384

noncomputable section

namespace Cert.Pool

open Idealize.ShloMosaic

/-- The pooled array: row `r`, parent `n` holds the mean of the row's entries at the parent's four children. -/
def pooled (X : FVec Ideal ⟨2, ![1024, 81920]⟩ .f32) : FVec Ideal ⟨2, ![1024, 20480]⟩ .f32 := fun i =>
  mean4 (X (ix2 (i 0) (child (i 1) 0))) (X (ix2 (i 0) (child (i 1) 1))) (X (ix2 (i 0) (child (i 1) 2))) (X (ix2 (i 0) (child (i 1) 3)))

/-- The pooled array of the rows, read at a batch, channel and parent. -/
theorem pooled_apply (x : FVec Ideal ⟨3, ![4, 256, 81920]⟩ .f32) (h h') (b : Fin 4) (c : Fin 256) (n : Fin 20480) :
    (shapeCast ⟨3, ![4, 256, 20480]⟩ (pooled (shapeCast ⟨2, ![1024, 81920]⟩ x h)) h' : FVec Ideal ⟨3, ![4, 256, 20480]⟩ .f32) (ix3 b c n)
      = mean4 (x (ix3 b c (child n 0))) (x (ix3 b c (child n 1))) (x (ix3 b c (child n 2))) (x (ix3 b c (child n 3))) := by
  have hb := b.isLt
  have hc := c.isLt
  have hn := n.isLt
  have e : (shapeCast ⟨3, ![4, 256, 20480]⟩ (pooled (shapeCast ⟨2, ![1024, 81920]⟩ x h)) h' : FVec Ideal ⟨3, ![4, 256, 20480]⟩ .f32) (ix3 b c n)
      = pooled (shapeCast ⟨2, ![1024, 81920]⟩ x h) (ix2 ⟨b.val * 256 + c.val, by omega⟩ n) := by
    pointwise
  have r (k : Fin 81920) : (shapeCast ⟨2, ![1024, 81920]⟩ x h : FVec Ideal ⟨2, ![1024, 81920]⟩ .f32) (ix2 ⟨b.val * 256 + c.val, by omega⟩ k) = x (ix3 b c k) := by
    pointwise
  rw [e]
  unfold pooled
  exact congr (congr (congrArg₂ mean4 (r _) (r _)) (r _)) (r _)

/-- A lane's number is not the word `-1`. -/
theorem lane_ne {k : ℕ} (h : k < 81920) : BitVec.ofNat 32 k ≠ 4294967295#32 := by
  intro e
  have := congrArg BitVec.toNat e
  rw [BitVec.toNat_ofNat, Nat.mod_eq_of_lt (by omega)] at this
  simp at this
  omega

end Cert.Pool

namespace Cert.KernelIdeal.Value

open Idealize.ShloMosaic Idealize.ShloMosaic.TcCoe Idealize.SL.Sem Cert.KernelIdeal Cert.KernelIdeal.Gen Cert.Pool
open Idealize.ShloMosaic.Pipeline (Dat)
open Cert.KernelIdeal.Run

/-! ## The rows the SparseCore's subcores pool -/

open Tile in
/-- With no child masked a parent's scale is a fourth. -/
theorem scale_quarter {p0 p1 p2 p3 : BitVec 32} (h0 : p0 ≠ 4294967295#32) (h1 : p1 ≠ 4294967295#32) (h2 : p2 ≠ 4294967295#32)
    (h3 : p3 ≠ 4294967295#32) : (scale1 (F := Ideal) p0 p1 p2 p3 : EReal) = Ideal.div 1 4 := by
  unfold scale1
  pointwise [k0_pay6]
  rw [ne_bit h0, ne_bit h1, ne_bit h2, ne_bit h3]
  erw [bit_one]
  rw [four_ones, max_four_one]

open Tile in
/-- The scaled sum is the mean. -/
theorem pool_mean (a b c e : EReal) : (pool1 (F := Ideal) (Ideal.div 1 4) a b c e : EReal) = mean4 a b c e :=
  mul_recip_four _

/-- A pool map's word at a flat position. -/
theorem flat_word (pm : IVec S20480x4 32) (h : Children pm) (k : Fin 81920) :
    (shapeCast S81920 pm shapeCasts_S20480x4_S81920 : IVec S81920 32) (ix1 k) = BitVec.ofNat 32 k.val := by
  have hk := k.isLt
  have ha := h ⟨k.val / 4, by omega⟩ ⟨k.val % 4, by omega⟩
  rw [Nat.div_add_mod'] at ha
  rw [← ha]
  pointwise
  try (refine congrArg pm ((ix2_inj ..).2 ⟨Fin.ext ?_, Fin.ext ?_⟩) <;> simp only [] <;> omega)

open Tile in
/-- The first 512 rows of what the subcores leave are pooled. -/
theorem scOut_low (X : FVec Ideal S1024x81920 .f32) (M : IVec S81920 32) (O : FVec Ideal S1024x20480 .f32)
    (h : ∀ k : Fin 81920, M (ix1 k) = BitVec.ofNat 32 k.val) (r : Fin 1024) (n : Fin 20480) (hr : r.val < 512) :
    scOut (F := Ideal) X M O (ix2 r n) = pooled X (ix2 r n) := by
  have hn := n.isLt
  unfold scOut
  refine (if_pos hr).trans ?_
  rw [h, h, h, h]
  erw [scale_quarter (lane_ne (by omega)) (lane_ne (by omega)) (lane_ne (by omega)) (lane_ne (by omega)), pool_mean]
  unfold pooled child
  refine congr (congr (congrArg₂ mean4 ?_ ?_) ?_) ?_ <;> exact congrArg X ((ix2_inj ..).2 ⟨rfl, Fin.ext (by simp only [ix2]; omega)⟩)

/-! ## The rows the TensorCore call pools -/

variable (V : (c : Dev nD) → (b : Ref sig .tc) → Buf (Elt Ideal) ((c : Thread nD τ).loc b))

/-- The lower half of the pooled rows. -/
def lower (X : FVec Ideal S1024x81920 .f32) : FVec Ideal S512x20480 .f32 := fun i =>
  pooled X (ix2 ⟨512 + (i 0).val, by have : (i 0).val < 512 := (i 0).isLt; omega⟩ (i 1))

/-- Where each window's block lies at a point. -/
theorem idx : ∀ t : Fin cfg1.N, win1_0.index t = ![t.val % 80, 0, 0] ∧ win1_1.index t = ![t.val / 80 + 2, t.val % 80]
    ∧ win1_2.index t = ![t.val / 80, t.val % 80] :=
  (by decide +kernel : ∀ t : Fin grid1.N, _)

/-- The mask window's block at a lane. -/
theorem read_pm (c : Dev nD) (t : Fin cfg1.N) (l : Fin 1024)
    (h : ∀ (k : Fin 80) (l : Fin 1024), (V c main_v3 : IVec S80x1x1024 32) (ix3 k 0 l) = BitVec.ofNat 32 (k.val * 1024 + l.val)) :
    Grid.blk V c 0 t (ix3 0 0 l) = BitVec.ofNat 32 (t.val % 80 * 1024 + l.val) := by
  refine Eq.trans ?_ (h ⟨t.val % 80, by omega⟩ l)
  blk_ext [Grid.blk, idx t]

open Grid in
/-- The block a point writes, at an index. -/
theorem point (c : Dev nD) (t : Fin cfg1.N) (y)
    (h : ∀ (k : Fin 80) (l : Fin 1024), (V c main_v3 : IVec S80x1x1024 32) (ix3 k 0 l) = BitVec.ofNat 32 (k.val * 1024 + l.val)) :
    k1_pay1 (F := Ideal) (k1_pay4 (Grid.blk V c 0 t) (Grid.blk V c 1 t)) (k1_pay5 (Grid.blk V c 0 t)) k1_pay6 y
      = lower (V c main_v0) (((cfg1.win 2).blk t).view.emb y) := by
  have hy : y = ix2 (n0 := 256) (n1 := 256) (y 0) (y 1) := ValueIdx.eq_ix2 y
  generalize y 0 = r at hy
  generalize y 1 = n at hy
  subst hy
  change Fin 256 at r
  change Fin 256 at n
  refine (Block.block_apply _ ?_ _ r n).trans ?_
  · intro l
    have hl := l.isLt
    rw [read_pm V c t l h]
    exact lane_ne (by omega)
  · unfold lower pooled child
    refine congr (congr (congrArg₂ mean4 ?_ ?_) ?_) ?_ <;> blk_ext [Grid.blk, idx t]

/-- What the TensorCore call leaves in its array. -/
theorem written_eq (c : Dev nD)
    (h : ∀ (k : Fin 80) (l : Fin 1024), (V c main_v3 : IVec S80x1x1024 32) (ix3 k 0 l) = BitVec.ofNat 32 (k.val * 1024 + l.val)) :
    Grid.written V c = lower (V c main_v0) := by
  unfold Grid.written
  refine (Grid.dats V 0 c).arrAt_eq_of_covers 2 _ (by decide +kernel) fun t _ y => ?_
  blk_simp
  rw [Grid.after_2]
  unfold Grid.block
  frame_out
  exact point V c t y h

/-! ## The arrays between the operations -/

variable (m : (ℓ : Loc nD τ sig) → Buf (Elt Ideal) ℓ)

/-- The first argument as rows. -/
abbrev rows (d : Dev nD) : FVec Ideal S1024x81920 .f32 := shapeCast S1024x81920 (m ((d : Thread nD τ).loc main_arg0)) shapeCasts_S4x256x81920_S1024x81920

/-- Before the SparseCore call its input is the first argument as rows, -/
theorem W1_x (d : Dev nD) : W1 m d (Proc.devRef .tc main_v0) = rows m d := by
  show StableHlo.after opsA (W0 m d) (Proc.devRef .tc main_v0) = _
  after_results
  rfl

/-- and its mask the pool map as one row of words. -/
theorem W1_pm (d : Dev nD) : W1 m d (Proc.devRef .tc main_v1) = (shapeCast S81920 (m ((d : Thread nD τ).loc main_arg1)) shapeCasts_S20480x4_S81920 : IVec S81920 32) := by
  show StableHlo.after opsA (W0 m d) (Proc.devRef .tc main_v1) = _
  after_results
  rfl

/-- Before the TensorCore call its input is the same, -/
theorem W3_x (d : Dev nD) : W3 m d (Proc.devRef .tc main_v0) = rows m d := by
  show StableHlo.after opsB (W2 m d) (Proc.devRef .tc main_v0) = _
  after_results
  exact (W2_ne m d main_v0 (by decide)).trans (W1_x m d)

/-- and its mask the pool map in blocks of 1024 words. -/
theorem W3_pm (d : Dev nD) : W3 m d (Proc.devRef .tc main_v3) = (shapeCast S80x1x1024 (m ((d : Thread nD τ).loc main_arg1)) shapeCasts_S20480x4_S80x1x1024 : IVec S80x1x1024 32) := by
  show StableHlo.after opsB (W2 m d) (Proc.devRef .tc main_v3) = _
  after_results
  rw [W2_ne m d main_arg1 (by decide)]
  show _ = _
  have e : W1 m d (Proc.devRef .tc main_arg1) = m ((d : Thread nD τ).loc main_arg1) := by
    show StableHlo.after opsA (W0 m d) (Proc.devRef .tc main_arg1) = _
    after_results
  rw [← e]
  rfl

/-- A pool map's word in the TensorCore call's layout. -/
theorem block_word (pm : IVec S20480x4 32) (h : Children pm) (k : Fin 80) (l : Fin 1024) :
    (shapeCast S80x1x1024 pm shapeCasts_S20480x4_S80x1x1024 : IVec S80x1x1024 32) (ix3 k 0 l) = BitVec.ofNat 32 (k.val * 1024 + l.val) := by
  have hl := l.isLt
  have hk := k.isLt
  have ha := h ⟨(k.val * 1024 + l.val) / 4, by omega⟩ ⟨(k.val * 1024 + l.val) % 4, by omega⟩
  rw [Nat.div_add_mod'] at ha
  rw [← ha]
  pointwise
  try (refine congrArg pm ((ix2_inj ..).2 ⟨Fin.ext ?_, Fin.ext ?_⟩) <;> simp only [] <;> omega)

/-- The TensorCore call's array at the end. -/
theorem W4_lower (d : Dev nD) (h : Children (m ((d : Thread nD τ).loc main_arg1))) : W4 m d (Proc.devRef .tc main_v4) = lower (rows m d) := by
  rw [W4_out, ← W3_x m d]
  refine written_eq (V3 m) d fun k l => ?_
  show (W3 m d (Proc.devRef .tc main_v3) : IVec S80x1x1024 32) (ix3 k 0 l) = _
  rw [W3_pm]
  exact block_word _ h k l

/-- The SparseCore call's array at the end. -/
theorem W4_upper (d : Dev nD) : W4 m d (Proc.devRef .tc main_v2) = Tile.goal d (W1 m d (Proc.devRef .tc main_v0)) (W1 m d (Proc.devRef .tc main_v1)) (W1 m d (Proc.devRef .tc main_v2)) := by
  rw [W4_ne m d main_v2 (by decide)]
  show StableHlo.after opsB (W2 m d) (Proc.devRef .tc main_v2) = _
  after_results
  exact W2_out m d

/-- The lower half set over the SparseCore call's array is the pooled rows. -/
theorem joined (X : FVec Ideal S1024x81920 .f32) (A : FVec Ideal S1024x20480 .f32) (st : Fin 2 → ℤ) (h0 : st 0 = 512) (h1 : st 1 = 0)
    (hA : ∀ (r : Fin 1024) (n : Fin 20480), r.val < 512 → A (ix2 r n) = pooled X (ix2 r n)) :
    (Host.dynamicUpdateSlice A (lower X) st updateFits_S1024x20480_S512x20480 : FVec Ideal S1024x20480 .f32) = pooled X := by
  have e : ∀ a, st a = ((![512, 0] : Fin 2 → ℕ) a : ℤ) := fun a => by fin_cases a; exacts [h0, h1]
  rw [WordCmp.dynamicUpdateSlice_eq_update A (lower X) st updateFits_S1024x20480_S512x20480 ![512, 0] ⟨rfl, by decide⟩ e]
  funext i
  have hi : i = ix2 (n0 := 1024) (n1 := 20480) (i 0) (i 1) := ValueIdx.eq_ix2 i
  generalize i 0 = r at hi
  generalize i 1 = n at hi
  subst hi
  change Fin 1024 at r
  change Fin 20480 at n
  have hr := r.isLt
  have hn := n.isLt
  unfold updateSlice
  by_cases h : r.val < 512
  · rw [dif_neg]
    · exact hA r n h
    · intro hin
      have h' : 512 ≤ r.val := (hin 0).1
      omega
  · rw [dif_pos]
    · unfold lower
      refine congrArg (pooled X) ((ix2_inj ..).2 ⟨Fin.ext ?_, Fin.ext ?_⟩)
      · show 512 + (r.val - 512) = r.val
        omega
      · show n.val - 0 = n.val
        omega
    · intro a
      fin_cases a
      · show 512 ≤ r.val ∧ r.val < 512 + 512
        omega
      · show 0 ≤ n.val ∧ n.val < 0 + 20480
        omega

/-- The array the last host operation leaves. -/
theorem result_arr (d : Dev nD) (h : Children (m ((d : Thread nD τ).loc main_arg1))) :
    W5 m d (Proc.devRef .tc main_v6)
      = (shapeCast S4x256x20480 (pooled (rows m d)) shapeCasts_S1024x20480_S4x256x20480 : FVec Ideal S4x256x20480 .f32) := by
  show StableHlo.after opsC (W4 m d) (Proc.devRef .tc main_v6) = _
  after_results
  rw [W4_lower m d h]
  refine congrArg (fun A : FVec Ideal S1024x20480 .f32 => (shapeCast S4x256x20480 A shapeCasts_S1024x20480_S4x256x20480 : FVec Ideal S4x256x20480 .f32)) ?_
  refine joined (rows m d) _ _ rfl rfl fun r n hr => ?_
  rw [W4_upper, W1_x, W1_pm]
  exact scOut_low _ _ _ (flat_word _ h) r n hr

end Cert.KernelIdeal.Value

end
-- ==== Proof.Same.lean ====
/-
  The kernel as printed and the kernel printed for the extended reals are one program, read at two kinds of float: no
  operation was rewritten between them. What every run of the one does, every run of the other does.
-/
module

public import proofs.«01_k».proof.Proof.IdealMain
public import proofs.«01_k».proof.Proof.Gen.Kernel
public import Idealize.ShloMosaic.PureOps.BitExact

@[expose] public section

set_option maxRecDepth 16384

noncomputable section

namespace Cert.Same

open Idealize.ShloMosaic Idealize.ShloMosaic.TcCoe Idealize.SL.Sem

variable {F : FTy → Type} [FloatOps F]

/-- The vector subcore's kernel is the same in both, -/
theorem sck_eq : @Cert.Kernel.cc0_sck F _ _ = Cert.KernelIdeal.cc0_sck := rfl

/-- and the TensorCore's, -/
theorem tc_eq : @Cert.Kernel.cc1__tc_pool_body F _ _ = Cert.KernelIdeal.cc1__tc_pool_body := rfl

/-- so each processor's kernels are, -/
theorem defs₀_eq : Cert.Kernel.defs₀ (F := F) = Cert.KernelIdeal.defs₀ (F := F) := by
  funext p l a
  cases p with
  | tc => fin_cases l <;> rfl
  | scScalar c => rfl
  | scVector c s => fin_cases l <;> rfl

/-- and with the calls around them everything a thread can call, -/
theorem defs_eq : Cert.Kernel.defs (F := F) = Cert.KernelIdeal.defs (F := F) := by
  unfold Cert.Kernel.defs Cert.KernelIdeal.defs
  exact congrArg (fun D : Defs Cert.KernelIdeal.nD Cert.KernelIdeal.τ Cert.KernelIdeal.sig (Elt F) Cert.KernelIdeal.Λ₀ =>
    (Cert.KernelIdeal.sc (F := F)).defs (Pipeline.defs Cert.KernelIdeal.pcfgs D)) defs₀_eq

/-- and what every thread runs. -/
theorem threads_eq : Cert.Kernel.threads (F := F) = Cert.KernelIdeal.threads (F := F) := rfl

/-- Every run of the kernel as printed, at any kind of float, ends with its arguments as launched and no signal left. -/
theorem quiescent [∀ e, Nonempty (Elt F e)] (m : (ℓ : Loc Cert.Kernel.nD Cert.Kernel.τ Cert.Kernel.sig) → Buf (Elt F) ℓ) (ρ : Dev Cert.Kernel.nD → PrngReg) :
    θ_run (Cert.Kernel.defs (F := F)) (Cert.Kernel.threads (F := F)) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, threads_eq]
  exact (θ_run (Cert.KernelIdeal.defs (F := F)) _ _).mono (fun r h => ⟨fun c => ⟨(h.1 c).1, (h.1 c).2.1⟩, h.2⟩) (Cert.KernelIdeal.Run.run_main m ρ)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_children
public import proofs.«01_k».proof.Proof.Gen.ReferenceIdeal.Run
public import proofs.«01_k».proof.Proof.Children
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Pool

/-- The reference's frame: it runs to its end and leaves its arguments as they were. -/
theorem quiescent_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩) (Cert.ReferenceIdeal.Value.run m ρ)

/-- The array both programs compute, as a function of the first argument: the mean of each parent's four children. -/
abbrev meanOf (x : FVec Ideal Cert.KernelIdeal.S4x256x81920 .f32) : FVec Ideal Cert.KernelIdeal.S4x256x20480 .f32 :=
  shapeCast Cert.KernelIdeal.S4x256x20480 (pooled (shapeCast Cert.KernelIdeal.S1024x81920 x Cert.KernelIdeal.Gen.shapeCasts_S4x256x81920_S1024x81920))
    Cert.KernelIdeal.Gen.shapeCasts_S1024x20480_S4x256x20480

/-- The reference's result is that array where the pool map lists the children in order. -/
theorem result_eq (x : FVec Ideal Cert.KernelIdeal.S4x256x81920 .f32) (pm : IVec Cert.KernelIdeal.S20480x4 32) (h : Children pm) :
    Cert.ReferenceIdeal.Mean.result x pm = meanOf x := by
  funext i
  rw [ValueIdx.eq_ix3 i]
  exact (Cert.ReferenceIdeal.Mean.result_apply x h _ _ _).trans (pooled_apply x _ _ _ _ _).symm

/-- The idealized kernel's frame: it runs to its end and leaves its arguments as they were. -/
theorem quiescent_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := Ideal)) _ _).mono (fun _ h => ⟨fun c => ⟨(h.1 c).1, (h.1 c).2.1⟩, h.2⟩) (Cert.KernelIdeal.Run.run_main m ρ)

theorem claim : Cert.Claim := ⟨Cert.Kernel.Gen.facts, Cert.KernelIdeal.Gen.facts, Cert.ReferenceIdeal.Gen.facts, Cert.Pre_children.Gen.facts,
  fun m ρ _ => Cert.Same.quiescent m ρ,
  fun m ρ _ => quiescent_ideal m ρ,
  fun m ρ _ => quiescent_ideal m ρ,
  fun m ρ _ => quiescent_ref m ρ,
  fun m ρ _ => quiescent_ref m ρ,
  trivial, by
  intro m ρ m' ρ' hpre hm
  have hch : ∀ c : Dev Cert.KernelIdeal.nD, Children (m ((c.tc : Thread Cert.KernelIdeal.nD Cert.KernelIdeal.τ).loc Cert.KernelIdeal.main_arg1)) :=
    fun c => Cert.Pre_children.children_of _ _ (hpre c)
  refine ⟨fun c => meanOf (m ((c.tc : Thread Cert.KernelIdeal.nD Cert.KernelIdeal.τ).loc Cert.KernelIdeal.main_arg0)), ?_, ?_⟩
  · exact (θ_run (Cert.KernelIdeal.defs (F := Ideal)) _ _).mono
      (fun r h c => ⟨(h.1 c).2.2.trans (Cert.KernelIdeal.Value.result_arr m c (hch c)), (h.1 c).1, (h.1 c).2.1⟩)
      (Cert.KernelIdeal.Run.run_main m ρ)
  · refine (θ_run Cert.ReferenceIdeal.defs _ _).mono (fun r h c => ⟨(h c).1.trans ?_, (h c).2⟩) (Cert.ReferenceIdeal.Value.run m' ρ')
    obtain ⟨e0, e1⟩ := hm c
    rw [e0, e1]
    exact result_eq _ _ (hch c)⟩

end Cert.Proof

end
